-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x3072 : Shape := ⟨3, ![1, 256, 3072]⟩
abbrev S3072x8192 : Shape := ⟨2, ![3072, 8192]⟩
abbrev S8192 : Shape := ⟨1, ![8192]⟩
abbrev S4096x3072 : Shape := ⟨2, ![4096, 3072]⟩
abbrev S3072 : Shape := ⟨1, ![3072]⟩
abbrev S256x3072 : Shape := ⟨2, ![256, 3072]⟩
abbrev S1x8192 : Shape := ⟨2, ![1, 8192]⟩
abbrev S1x3072 : Shape := ⟨2, ![1, 3072]⟩
abbrev S256x1 : Shape := ⟨2, ![256, 1]⟩
abbrev S256x4096 : Shape := ⟨2, ![256, 4096]⟩
abbrev S16x3072x512 : Shape := ⟨3, ![16, 3072, 512]⟩
abbrev S12x4096x256 : Shape := ⟨3, ![12, 4096, 256]⟩
abbrev S3 : Shape := ⟨1, ![3]⟩
abbrev S16x2 : Shape := ⟨2, ![16, 2]⟩
abbrev S12 : Shape := ⟨1, ![12]⟩
abbrev S4 : Shape := ⟨1, ![4]⟩
abbrev S1 : Shape := ⟨1, ![1]⟩
abbrev S_ : Shape := ⟨0, ![]⟩
abbrev S1x1 : Shape := ⟨2, ![1, 1]⟩
abbrev S1x3072x256 : Shape := ⟨3, ![1, 3072, 256]⟩
abbrev S3072x256 : Shape := ⟨2, ![3072, 256]⟩
abbrev S1x4096x256 : Shape := ⟨3, ![1, 4096, 256]⟩
abbrev S4096x256 : Shape := ⟨2, ![4096, 256]⟩
abbrev S256x128 : Shape := ⟨2, ![256, 128]⟩
abbrev S256 : Shape := ⟨1, ![256]⟩
abbrev S256x256 : Shape := ⟨2, ![256, 256]⟩
abbrev S1x3072x512 : Shape := ⟨3, ![1, 3072, 512]⟩
abbrev S3072x512 : Shape := ⟨2, ![3072, 512]⟩
abbrev S256x512 : Shape := ⟨2, ![256, 512]⟩
abbrev S1x256 : Shape := ⟨2, ![1, 256]⟩
abbrev S1x256x1 : Shape := ⟨3, ![1, 256, 1]⟩
abbrev S1x256x4096 : Shape := ⟨3, ![1, 256, 4096]⟩

abbrev nBuf : Space → Nat
  | .hbm => 18
  | .vmem => 11
  | .smem => 0
  | _ => 0

abbrev bufTy : (tb : Table) → Fin (tcTables nBuf tb) → BufTy
  | .hbm, ⟨0, _⟩ => ⟨S1x256x3072, .bf16⟩
  | .hbm, ⟨1, _⟩ => ⟨S3072x8192, .fp8e4m3⟩
  | .hbm, ⟨2, _⟩ => ⟨S8192, .f32⟩
  | .hbm, ⟨3, _⟩ => ⟨S4096x3072, .fp8e4m3⟩
  | .hbm, ⟨4, _⟩ => ⟨S3072, .f32⟩
  | .hbm, ⟨5, _⟩ => ⟨S256x3072, .bf16⟩
  | .hbm, ⟨6, _⟩ => ⟨S1x8192, .f32⟩
  | .hbm, ⟨7, _⟩ => ⟨S1x3072, .f32⟩
  | .hbm, ⟨8, _⟩ => ⟨S256x3072, .bf16⟩
  | .hbm, ⟨9, _⟩ => ⟨S256x3072, .fp8e4m3⟩
  | .hbm, ⟨10, _⟩ => ⟨S256x1, .f32⟩
  | .hbm, ⟨11, _⟩ => ⟨S256x4096, .fp8e4m3⟩
  | .hbm, ⟨12, _⟩ => ⟨S256x1, .f32⟩
  | .hbm, ⟨13, _⟩ => ⟨S1x256x3072, .bf16⟩
  | .hbm, ⟨14, _⟩ => ⟨S1x256x3072, .fp8e4m3⟩
  | .hbm, ⟨15, _⟩ => ⟨S1x256x1, .f32⟩
  | .hbm, ⟨16, _⟩ => ⟨S1x256x4096, .fp8e4m3⟩
  | .hbm, ⟨17, _⟩ => ⟨S1x256x1, .f32⟩
  | .local _ .vmem, ⟨0, _⟩ => ⟨S256x3072, .bf16⟩
  | .local _ .vmem, ⟨1, _⟩ => ⟨S1x8192, .f32⟩
  | .local _ .vmem, ⟨2, _⟩ => ⟨S1x3072, .f32⟩
  | .local _ .vmem, ⟨3, _⟩ => ⟨S16x3072x512, .fp8e4m3⟩
  | .local _ .vmem, ⟨4, _⟩ => ⟨S12x4096x256, .fp8e4m3⟩
  | .local _ .vmem, ⟨5, _⟩ => ⟨S256x3072, .fp8e4m3⟩
  | .local _ .vmem, ⟨6, _⟩ => ⟨S256x1, .f32⟩
  | .local _ .vmem, ⟨7, _⟩ => ⟨S256x4096, .f32⟩
  | .local _ .vmem, ⟨8, _⟩ => ⟨S256x4096, .fp8e4m3⟩
  | .local _ .vmem, ⟨9, _⟩ => ⟨S256x1, .f32⟩
  | .local _ .vmem, ⟨10, _⟩ => ⟨S256x3072, .bf16⟩
  | _, _ => ⟨S1x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩

abbrev nD : Nat := 1
abbrev τ : Topo := Topo.v7x

variable {F : FTy → Type} [FloatOps F]

abbrev grid0 : Pipeline.Grid := .none
-- ==== ReferenceIdeal.lean ====
abbrev S1x256x3072 : Shape := ⟨3, ![1, 256, 3072]⟩
abbrev S3072x8192 : Shape := ⟨2, ![3072, 8192]⟩
abbrev S8192 : Shape := ⟨1, ![8192]⟩
abbrev S4096x3072 : Shape := ⟨2, ![4096, 3072]⟩
abbrev S3072 : Shape := ⟨1, ![3072]⟩
abbrev S256x3072 : Shape := ⟨2, ![256, 3072]⟩
abbrev S1x8192 : Shape := ⟨2, ![1, 8192]⟩
abbrev S1x3072 : Shape := ⟨2, ![1, 3072]⟩
abbrev S256x1 : Shape := ⟨2, ![256, 1]⟩
abbrev S256x4096 : Shape := ⟨2, ![256, 4096]⟩
abbrev S256 : Shape := ⟨1, ![256]⟩
abbrev S256x8192 : Shape := ⟨2, ![256, 8192]⟩
abbrev S1x256x1 : Shape := ⟨3, ![1, 256, 1]⟩
abbrev S1x256x4096 : Shape := ⟨3, ![1, 256, 4096]⟩

abbrev nBuf : Space → Nat
  | .hbm => 18
  | .vmem => 10
  | .smem => 0
  | _ => 0

abbrev bufTy : (tb : Table) → Fin (tcTables nBuf tb) → BufTy
  | .hbm, ⟨0, _⟩ => ⟨S1x256x3072, .bf16⟩
  | .hbm, ⟨1, _⟩ => ⟨S3072x8192, .fp8e4m3⟩
  | .hbm, ⟨2, _⟩ => ⟨S8192, .f32⟩
  | .hbm, ⟨3, _⟩ => ⟨S4096x3072, .fp8e4m3⟩
  | .hbm, ⟨4, _⟩ => ⟨S3072, .f32⟩
  | .hbm, ⟨5, _⟩ => ⟨S256x3072, .bf16⟩
  | .hbm, ⟨6, _⟩ => ⟨S1x8192, .f32⟩
  | .hbm, ⟨7, _⟩ => ⟨S1x3072, .f32⟩
  | .hbm, ⟨8, _⟩ => ⟨S256x3072, .bf16⟩
  | .hbm, ⟨9, _⟩ => ⟨S256x3072, .fp8e4m3⟩
  | .hbm, ⟨10, _⟩ => ⟨S256x1, .f32⟩
  | .hbm, ⟨11, _⟩ => ⟨S256x4096, .fp8e4m3⟩
  | .hbm, ⟨12, _⟩ => ⟨S256x1, .f32⟩
  | .hbm, ⟨13, _⟩ => ⟨S1x256x3072, .bf16⟩
  | .hbm, ⟨14, _⟩ => ⟨S1x256x3072, .fp8e4m3⟩
  | .hbm, ⟨15, _⟩ => ⟨S1x256x1, .f32⟩
  | .hbm, ⟨16, _⟩ => ⟨S1x256x4096, .fp8e4m3⟩
  | .hbm, ⟨17, _⟩ => ⟨S1x256x1, .f32⟩
  | .local _ .vmem, ⟨0, _⟩ => ⟨S256x3072, .bf16⟩
  | .local _ .vmem, ⟨1, _⟩ => ⟨S3072x8192, .fp8e4m3⟩
  | .local _ .vmem, ⟨2, _⟩ => ⟨S1x8192, .f32⟩
  | .local _ .vmem, ⟨3, _⟩ => ⟨S4096x3072, .fp8e4m3⟩
  | .local _ .vmem, ⟨4, _⟩ => ⟨S1x3072, .f32⟩
  | .local _ .vmem, ⟨5, _⟩ => ⟨S256x3072, .bf16⟩
  | .local _ .vmem, ⟨6, _⟩ => ⟨S256x3072, .fp8e4m3⟩
  | .local _ .vmem, ⟨7, _⟩ => ⟨S256x1, .f32⟩
  | .local _ .vmem, ⟨8, _⟩ => ⟨S256x4096, .fp8e4m3⟩
  | .local _ .vmem, ⟨9, _⟩ => ⟨S256x1, .f32⟩
  | _, _ => ⟨S1x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x3072 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelBody.lean ====
/-
  The kernel's body as one run: from the five operands in HBM, the five results, the scratch buffers and the 63 DMA
  cells at zero, to the operands as they were, the results at the contents the run finds, the scratch buffers at some
  contents and the cells at zero again. Every transfer of the body has a cell of its own, so each wait closes the one
  transfer its cell carries; the columns of one buffer in flight at once are windows lent apart, and a buffer read
  while it is copied out (the codes and the scales) is lent at half its share.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands: the scratch buffers, the operands and the results in HBM -/

abbrev sc0 : Memref sig .tc .vmem S256x3072 .bf16 := Memref.whole cc0_scratch0
abbrev sc1 : Memref sig .tc .vmem S1x8192 .f32 := Memref.whole cc0_scratch1
abbrev sc2 : Memref sig .tc .vmem S1x3072 .f32 := Memref.whole cc0_scratch2
abbrev sc3 : Memref sig .tc .vmem S16x3072x512 .fp8e4m3 := Memref.whole cc0_scratch3
abbrev sc4 : Memref sig .tc .vmem S12x4096x256 .fp8e4m3 := Memref.whole cc0_scratch4
abbrev sc5 : Memref sig .tc .vmem S256x3072 .fp8e4m3 := Memref.whole cc0_scratch5
abbrev sc6 : Memref sig .tc .vmem S256x1 .f32 := Memref.whole cc0_scratch6
abbrev sc7 : Memref sig .tc .vmem S256x4096 .f32 := Memref.whole cc0_scratch7
abbrev sc8 : Memref sig .tc .vmem S256x4096 .fp8e4m3 := Memref.whole cc0_scratch8
abbrev sc9 : Memref sig .tc .vmem S256x1 .f32 := Memref.whole cc0_scratch9
abbrev sc10 : Memref sig .tc .vmem S256x3072 .bf16 := Memref.whole cc0_scratch10
abbrev hb0 : Memref sig .tc .hbm S256x3072 .bf16 := Memref.whole main_v0
abbrev hb1 : Memref sig .tc .hbm S3072x8192 .fp8e4m3 := Memref.whole main_arg1
abbrev hb2 : Memref sig .tc .hbm S1x8192 .f32 := Memref.whole main_v1
abbrev hb3 : Memref sig .tc .hbm S4096x3072 .fp8e4m3 := Memref.whole main_arg3
abbrev hb4 : Memref sig .tc .hbm S1x3072 .f32 := Memref.whole main_v2
abbrev hb5 : Memref sig .tc .hbm S256x3072 .bf16 := Memref.whole main_v3_0
abbrev hb6 : Memref sig .tc .hbm S256x3072 .fp8e4m3 := Memref.whole main_v3_1
abbrev hb7 : Memref sig .tc .hbm S256x1 .f32 := Memref.whole main_v3_2
abbrev hb8 : Memref sig .tc .hbm S256x4096 .fp8e4m3 := Memref.whole main_v3_3
abbrev hb9 : Memref sig .tc .hbm S256x1 .f32 := Memref.whole main_v3_4

/-- The contents of a memref's buffer on core `c`. -/
abbrev HbBuf (c : Dev nD) {sp : Space} {S : Shape} {e : EltTy} (M : Memref sig .tc sp S e) : Type := Buf (Elt F) (M.view.loc (c : Thread nD τ))
/-- A memref's buffer held whole at contents `f`. -/
abbrev hbPt (c : Dev nD) {sp : Space} {S : Shape} {e : EltTy} (M : Memref sig .tc sp S e) (f : HbBuf (F := F) c M) : sProp 𝕄 :=
  M.view.loc (c : Thread nD τ) ↦{fullShare} f

/-- The body's 63 DMA cells, each at zero. -/
abbrev cells0 (c : Dev nD) : sProp 𝕄 :=
  iprop(semVal ((c : Thread nD τ), SemLoc.dma 0) 0  ∗ semVal ((c : Thread nD τ), SemLoc.dma 1) 0  ∗ semVal ((c : Thread nD τ), SemLoc.dma 2) 0
    ∗ semVal ((c : Thread nD τ), SemLoc.dma 3) 0  ∗ semVal ((c : Thread nD τ), SemLoc.dma 4) 0  ∗ semVal ((c : Thread nD τ), SemLoc.dma 5) 0
    ∗ semVal ((c : Thread nD τ), SemLoc.dma 6) 0  ∗ semVal ((c : Thread nD τ), SemLoc.dma 7) 0  ∗ semVal ((c : Thread nD τ), SemLoc.dma 8) 0
    ∗ semVal ((c : Thread nD τ), SemLoc.dma 9) 0  ∗ semVal ((c : Thread nD τ), SemLoc.dma 10) 0  ∗ semVal ((c : Thread nD τ), SemLoc.dma 11) 0
    ∗ semVal ((c : Thread nD τ), SemLoc.dma 12) 0  ∗ semVal ((c : Thread nD τ), SemLoc.dma 13) 0  ∗ semVal ((c : Thread nD τ), SemLoc.dma 14) 0
    ∗ semVal ((c : Thread nD τ), SemLoc.dma 15) 0  ∗ semVal ((c : Thread nD τ), SemLoc.dma 16) 0  ∗ semVal ((c : Thread nD τ), SemLoc.dma 17) 0
    ∗ semVal ((c : Thread nD τ), SemLoc.dma 18) 0  ∗ semVal ((c : Thread nD τ), SemLoc.dma 19) 0  ∗ semVal ((c : Thread nD τ), SemLoc.dma 20) 0
    ∗ semVal ((c : Thread nD τ), SemLoc.dma 21) 0  ∗ semVal ((c : Thread nD τ), SemLoc.dma 22) 0  ∗ semVal ((c : Thread nD τ), SemLoc.dma 23) 0
    ∗ semVal ((c : Thread nD τ), SemLoc.dma 24) 0  ∗ semVal ((c : Thread nD τ), SemLoc.dma 25) 0  ∗ semVal ((c : Thread nD τ), SemLoc.dma 26) 0
    ∗ semVal ((c : Thread nD τ), SemLoc.dma 27) 0  ∗ semVal ((c : Thread nD τ), SemLoc.dma 28) 0  ∗ semVal ((c : Thread nD τ), SemLoc.dma 29) 0
    ∗ semVal ((c : Thread nD τ), SemLoc.dma 30) 0  ∗ semVal ((c : Thread nD τ), SemLoc.dma 31) 0  ∗ semVal ((c : Thread nD τ), SemLoc.dma 32) 0
    ∗ semVal ((c : Thread nD τ), SemLoc.dma 33) 0  ∗ semVal ((c : Thread nD τ), SemLoc.dma 34) 0  ∗ semVal ((c : Thread nD τ), SemLoc.dma 35) 0
    ∗ semVal ((c : Thread nD τ), SemLoc.dma 36) 0  ∗ semVal ((c : Thread nD τ), SemLoc.dma 37) 0  ∗ semVal ((c : Thread nD τ), SemLoc.dma 38) 0
    ∗ semVal ((c : Thread nD τ), SemLoc.dma 39) 0  ∗ semVal ((c : Thread nD τ), SemLoc.dma 40) 0  ∗ semVal ((c : Thread nD τ), SemLoc.dma 41) 0
    ∗ semVal ((c : Thread nD τ), SemLoc.dma 42) 0  ∗ semVal ((c : Thread nD τ), SemLoc.dma 43) 0  ∗ semVal ((c : Thread nD τ), SemLoc.dma 44) 0
    ∗ semVal ((c : Thread nD τ), SemLoc.dma 45) 0  ∗ semVal ((c : Thread nD τ), SemLoc.dma 46) 0  ∗ semVal ((c : Thread nD τ), SemLoc.dma 47) 0
    ∗ semVal ((c : Thread nD τ), SemLoc.dma 48) 0  ∗ semVal ((c : Thread nD τ), SemLoc.dma 49) 0  ∗ semVal ((c : Thread nD τ), SemLoc.dma 50) 0
    ∗ semVal ((c : Thread nD τ), SemLoc.dma 51) 0  ∗ semVal ((c : Thread nD τ), SemLoc.dma 52) 0  ∗ semVal ((c : Thread nD τ), SemLoc.dma 53) 0
    ∗ semVal ((c : Thread nD τ), SemLoc.dma 54) 0  ∗ semVal ((c : Thread nD τ), SemLoc.dma 55) 0  ∗ semVal ((c : Thread nD τ), SemLoc.dma 56) 0
    ∗ semVal ((c : Thread nD τ), SemLoc.dma 57) 0  ∗ semVal ((c : Thread nD τ), SemLoc.dma 58) 0  ∗ semVal ((c : Thread nD τ), SemLoc.dma 59) 0
    ∗ semVal ((c : Thread nD τ), SemLoc.dma 60) 0  ∗ semVal ((c : Thread nD τ), SemLoc.dma 61) 0  ∗ semVal ((c : Thread nD τ), SemLoc.dma 62) 0)

/-- The scratch buffers, each whole at some contents. -/
abbrev scratches (c : Dev nD) : sProp 𝕄 :=
  iprop((∃ f, hbPt c sc0 f)
    ∗ (∃ f, hbPt c sc1 f)
    ∗ (∃ f, hbPt c sc2 f)
    ∗ (∃ f, hbPt c sc3 f)
    ∗ (∃ f, hbPt c sc4 f)
    ∗ (∃ f, hbPt c sc5 f)
    ∗ (∃ f, hbPt c sc6 f)
    ∗ (∃ f, hbPt c sc7 f)
    ∗ (∃ f, hbPt c sc8 f)
    ∗ (∃ f, hbPt c sc9 f)
    ∗ (∃ f, hbPt c sc10 f))

/-- The operands in HBM, each whole at its contents. -/
abbrev operands (c : Dev nD) (fh0 : HbBuf (F := F) c hb0) (fh1 : HbBuf (F := F) c hb1) (fh2 : HbBuf (F := F) c hb2) (fh3 : HbBuf (F := F) c hb3) (fh4 : HbBuf (F := F) c hb4) : sProp 𝕄 :=
  iprop(hbPt c hb0 fh0 ∗ hbPt c hb1 fh1 ∗ hbPt c hb2 fh2 ∗ hbPt c hb3 fh3 ∗ hbPt c hb4 fh4)

/-- What the body leaves in the five results. -/
structure Outs (F : FTy → Type) [FloatOps F] (c : Dev nD) where
  out : HbBuf (F := F) c hb5
  xCodes : HbBuf (F := F) c hb6
  xScale : HbBuf (F := F) c hb7
  hCodes : HbBuf (F := F) c hb8
  hScale : HbBuf (F := F) c hb9

/-- The results in HBM, each whole at its contents. -/
abbrev results (c : Dev nD) (g : Outs F c) : sProp 𝕄 :=
  iprop(hbPt c hb5 g.out ∗ hbPt c hb6 g.xCodes ∗ hbPt c hb7 g.xScale ∗ hbPt c hb8 g.hCodes ∗ hbPt c hb9 g.hScale)

set_option sl_exec.lendShare "HS5, HS6, HS8, HS9" in
set_option sl_exec.dmaWindow true in
set_option sl_exec.rejoinFuel 80 in
set_option sl_exec.parts true in
/-- The body's run: from the operands, the results and the scratch buffers at any contents, the cells at zero and what
    the core owes, to the results at contents the run finds and everything else as it was, the scratch buffers at some
    contents. -/
def bodyRun (c : Dev nD) (fh0 : HbBuf (F := F) c hb0) (fh1 : HbBuf (F := F) c hb1) (fh2 : HbBuf (F := F) c hb2) (fh3 : HbBuf (F := F) c hb3) (fh4 : HbBuf (F := F) c hb4) (g : Outs F c)
    (fs0 : HbBuf (F := F) c sc0) (fs1 : HbBuf (F := F) c sc1) (fs2 : HbBuf (F := F) c sc2) (fs3 : HbBuf (F := F) c sc3) (fs4 : HbBuf (F := F) c sc4) (fs5 : HbBuf (F := F) c sc5) (fs6 : HbBuf (F := F) c sc6) (fs7 : HbBuf (F := F) c sc7) (fs8 : HbBuf (F := F) c sc8) (fs9 : HbBuf (F := F) c sc9) (fs10 : HbBuf (F := F) c sc10) :
    { g' : Outs F c // ∀ (W : Waits sig Unit) (K : PUnit → sProp 𝕄),
      iprop(operands c fh0 fh1 fh2 fh3 fh4 ∗ results c g
        ∗ hbPt c sc0 fs0 ∗ hbPt c sc1 fs1 ∗ hbPt c sc2 fs2 ∗ hbPt c sc3 fs3 ∗ hbPt c sc4 fs4 ∗ hbPt c sc5 fs5 ∗ hbPt c sc6 fs6 ∗ hbPt c sc7 fs7 ∗ hbPt c sc8 fs8 ∗ hbPt c sc9 fs9 ∗ hbPt c sc10 fs10
        ∗ cells0 (F := F) c ∗ owes (c : Thread nD τ) 0 W
        ∗ (iprop(operands c fh0 fh1 fh2 fh3 fh4 ∗ results c g' ∗ scratches (F := F) c ∗ cells0 (F := F) c
            ∗ (∃ W', owes (c : Thread nD τ) 0 W')) -∗ K ⟨⟩))
      ⊢ wp frame (wpE (defs₀ (F := F)) Variants.none c none) Set.univ (cc0_gated_mlp hb0 (Memref.isWhole_whole _) hb1 (Memref.isWhole_whole _) hb2 (Memref.isWhole_whole _) hb3 (Memref.isWhole_whole _) hb4 (Memref.isWhole_whole _) hb5 (Memref.isWhole_whole _) hb6 (Memref.isWhole_whole _) hb7 (Memref.isWhole_whole _) hb8 (Memref.isWhole_whole _) hb9 (Memref.isWhole_whole _)
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _)
        cc0_scratch11 cc0_scratch12 cc0_scratch13 cc0_scratch14 cc0_scratch15) K } := by
  obtain ⟨fh5, fh6, fh7, fh8, fh9⟩ := g
  refine ⟨⟨?_, ?_, ?_, ?_, ?_⟩, fun W K => ?run⟩
  case run =>
    dsimp only
    iintro ⟨⟨Hh0, Hh1, Hh2, Hh3, Hh4⟩, ⟨Hh5, Hh6, Hh7, Hh8, Hh9⟩,
      HS0, HS1, HS2, HS3, HS4, HS5, HS6, HS7, HS8, HS9, HS10,
      ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62⟩, HW, Hk⟩
    sl_exec
    sl_step
    iapply Hk
    sl_close

end Cert.Kernel.Hand
end
-- ==== Proof.KernelFrame.lean ====
/-
  The frame of the program: @main's host lines, the one region around the body's run and the host lines after it. The
  region reads the five operands in HBM and writes the five results, both by the body's own transfers
  (`Pipeline.ΦDR`); the program terminates, nothing faults, the five arguments end unchanged and every counter ends
  at zero.
-/
module

public import proofs.«01_k».proof.Proof.KernelBody
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, over the algebra of a body with transfers of its own. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The body's own semaphore cells: the 63 of the pool. -/
abbrev osem0 : Fin 63 → SemLoc sig := fun j => SemLoc.dma j
/-- They are distinct, and none is a cell of the pipeline's. -/
theorem ownSemFacts0 : Pipeline.OwnSemFacts cfg0.spec osem0 := by decide
/-- The 63 cells at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = cells0 (F := F) c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62] (by decide) (by decide)]; rfl

/-- The buffers in HBM the body's transfers read. -/
def H0 : Finset (Ref sig .tc) := {main_v0, main_arg1, main_v1, main_arg3, main_v2}
/-- They bypass the pipeline. -/
theorem H0_sub : H0 ⊆ Pipeline.restRefs sig cfg0.spec := by decide
/-- The operands, one by one, each at what the region finds. -/
theorem operands_eq (c : Dev nD) :
    (bigSep H0 (fun b => ((c : Thread nD τ).loc b) ↦{fullShare} V m c b) : sProp 𝕄)
      = operands c (V m c main_v0) (V m c main_arg1) (V m c main_v1) (V m c main_arg3) (V m c main_v2) := by
  rw [BI.bigSep_eq_bigSepL_of_eq [main_v0, main_arg1, main_v1, main_arg3, main_v2] (by decide) (by decide)]; rfl
/-- The buffers in HBM the body's transfers write: the five results. -/
def R0 : Finset (Ref sig .tc) := {main_v3_0, main_v3_1, main_v3_2, main_v3_3, main_v3_4}
/-- They bypass the pipeline, and are none of the operands. -/
theorem R0_sub : R0 ⊆ Pipeline.restRefs sig cfg0.spec \ H0 := by decide
/-- The results held whole, one by one, at any contents `g`. -/
theorem results_eq (c : Dev nD) (g : (b : Ref sig .tc) → Buf (Elt F) ((c : Thread nD τ).loc b)) :
    (bigSep R0 (fun b => ((c : Thread nD τ).loc b) ↦{fullShare} g b) : sProp 𝕄)
      = results c ⟨g main_v3_0, g main_v3_1, g main_v3_2, g main_v3_3, g main_v3_4⟩ := by
  rw [BI.bigSep_eq_bigSepL_of_eq [main_v3_0, main_v3_1, main_v3_2, main_v3_3, main_v3_4] (by decide) (by decide)]; rfl
/-- The results held whole, one by one, at contents nothing names. -/
theorem owned_eq (c : Dev nD) :
    (Pipeline.owned R0 c : sProp 𝕄)
      = iprop((∃ f, hbPt c hb5 f) ∗ (∃ f, hbPt c hb6 f) ∗ (∃ f, hbPt c hb7 f) ∗ (∃ f, hbPt c hb8 f) ∗ (∃ f, hbPt c hb9 f)) := by
  unfold Pipeline.owned; rw [BI.bigSep_eq_bigSepL_of_eq [main_v3_0, main_v3_1, main_v3_2, main_v3_3, main_v3_4] (by decide) (by decide)]; rfl

/-- The buffers the lines after the region write. -/
def T0 : Finset (Ref sig .tc) := {main_v4, main_v5, main_v6, main_v7, main_v8}
/-- Those lines write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  intro b hb
  rcases hop with rfl | rfl | rfl | rfl | rfl <;>
  · simp only [StableHlo.reshape_writes, Finset.mem_singleton] at hb
    obtain rfl := Proc.devRef_injective _ hb
    decide

/-- The region's scoped buffers are the body's scratch buffers. -/
theorem scratches_eq (c : Dev nD) :
    (Pipeline.scopedRest (Ix := Unit) (Name := ℕ) (U := Pipeline.UD sig nD τ) (Lvl := ℕ) (Val := Elt F) cfg0.spec c : sProp 𝕄)
      = scratches (F := F) c := scopedRest0_eq c

/-- The region's invariant, one by one: the scratch buffers, the generator register, the cells at zero, the operands,
    the results. -/
theorem PhiDR_eq (c : Dev nD) :
    (Pipeline.ΦDR osem0 cfg0.spec H0 R0 (V m) c : sProp 𝕄)
      = iprop(scratches (F := F) c ∗ (∃ r, prngReg c r) ∗ cells0 (F := F) c ∗ operands c (V m c main_v0) (V m c main_arg1) (V m c main_v1) (V m c main_arg3) (V m c main_v2)
          ∗ ((∃ f, hbPt c hb5 f) ∗ (∃ f, hbPt c hb6 f) ∗ (∃ f, hbPt c hb7 f) ∗ (∃ f, hbPt c hb8 f) ∗ (∃ f, hbPt c hb9 f))) := by
  rw [Pipeline.ΦDR_eq, scratches_eq, ownSems00_eq, operands_eq, owned_eq]

/-- The proof data of the one pipeline, which stages nothing: the invariant is the same before and after the body. -/
def dats (_ : Fin 1) (c : Dev nD) : Dat τ (Elt F) Unit ℕ (Pipeline.UD sig nD τ) ℕ cfg0 c where
  A w := w.elim0
  after w := w.elim0
  Φ _ := Pipeline.ΦDR osem0 cfg0.spec H0 R0 (V m) c
  q _ := fullShare
  owed _ := 0

/-- The body at the grid's one point keeps the invariant: the run. -/
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
          (fun _ => iprop((dats m 0 c).Φ t.succ ∗ (dats m 0 c).owesAt () t.succ ∗ emp)) := by
  unfold bodyAt0
  rw [show (dats m 0 c).Φ t.succ = (dats m 0 c).Φ t.castSucc from rfl]
  rw [show (dats m 0 c).Φ t.castSucc = Pipeline.ΦDR osem0 cfg0.spec H0 R0 (V m) c from rfl, PhiDR_eq]
  unfold Dat.owesAt Pipeline.owesWithin
  rw [show (dats m 0 c).owed t.castSucc = 0 from rfl, show (dats m 0 c).owed t.succ = 0 from rfl]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩⟩, Hg, Hq, Hh, ⟨⟨%g5, Hg5⟩, ⟨%g6, Hg6⟩, ⟨%g7, Hg7⟩, ⟨%g8, Hg8⟩, ⟨%g9, Hg9⟩⟩⟩, ⟨%W, -, HW⟩, He⟩
  iapply ((bodyRun c (V m c main_v0) (V m c main_arg1) (V m c main_v1) (V m c main_arg3) (V m c main_v2) ⟨g5, g6, g7, g8, g9⟩ s0 s1 s2 s3 s4 s5 s6 s7 s8 s9 s10).2 W _)
  isplitl [Hh]; · iexact Hh
  isplitl [Hg5 Hg6 Hg7 Hg8 Hg9]
  · isplitl [Hg5]; · iexact Hg5
    isplitl [Hg6]; · iexact Hg6
    isplitl [Hg7]; · iexact Hg7
    isplitl [Hg8]; · iexact Hg8
    iexact Hg9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [Hq]; · iexact Hq
  isplitl [HW]; · iexact HW
  iintro ⟨Hh, ⟨Hg5, Hg6, Hg7, Hg8, Hg9⟩, HS, Hq, ⟨%W', HW'⟩⟩
  isplitl [HS Hg Hq Hh Hg5 Hg6 Hg7 Hg8 Hg9]
  · isplitl [HS]; · iexact HS
    isplitl [Hg]; · iexact Hg
    isplitl [Hq]; · iexact Hq
    isplitl [Hh]; · iexact Hh
    isplitl [Hg5]; · iexists _; iexact Hg5
    isplitl [Hg6]; · iexists _; iexact Hg6
    isplitl [Hg7]; · iexists _; iexact Hg7
    isplitl [Hg8]; · iexists _; iexact Hg8
    iexists _; iexact Hg9
  isplitl [HW']
  · iexists W'; isplitr; · ipureintro; exact fun _ _ => Or.inl trivial
    iexact HW'
  iexact He

/-- The body table's row at the grid's point is the body. -/
theorem defs₀_row (t : Fin cfg0.N) :
    defs₀ (F := F) .tc cfg0.body (cfg0.bodyArgs t (cfg0.slots t)) = bodyAt0 t := by
  unfold defs₀; rw [Defs.onTc_tc]

/-- A product over no windows is empty. -/
theorem bigSep_none (Φ : Fin cfg0.W → sProp 𝕄) : bigSep Finset.univ Φ = BI.emp := rfl

/-- The library's body obligation. -/
theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

set_option backward.isDefEq.respectTransparency.types false in
set_option maxHeartbeats 800000 in
/-- The run of @main: every buffer that bypasses the region and that nobody writes ends as the region found it, and
    every counter ends at zero. -/
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmainD m Variants.none) (hA := fun _ w => w.elim0)
    (hin := fun _ => .rfl) (hout := fun _ => .rfl)

/-- The frame claim: the five arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.Kernel.Hand

end
-- ==== Proof.KernelIdealBody.lean ====
/-
  The kernel's body as one run: from the five operands in HBM, the five results, the scratch buffers and the 63 DMA
  cells at zero, to the operands as they were, the results at the contents the run finds, the scratch buffers at some
  contents and the cells at zero again. Every transfer of the body has a cell of its own, so each wait closes the one
  transfer its cell carries; the columns of one buffer in flight at once are windows lent apart, and a buffer read
  while it is copied out (the codes and the scales) is lent at half its share.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands: the scratch buffers, the operands and the results in HBM -/

abbrev sc0 : Memref sig .tc .vmem S256x3072 .bf16 := Memref.whole cc0_scratch0
abbrev sc1 : Memref sig .tc .vmem S1x8192 .f32 := Memref.whole cc0_scratch1
abbrev sc2 : Memref sig .tc .vmem S1x3072 .f32 := Memref.whole cc0_scratch2
abbrev sc3 : Memref sig .tc .vmem S16x3072x512 .fp8e4m3 := Memref.whole cc0_scratch3
abbrev sc4 : Memref sig .tc .vmem S12x4096x256 .fp8e4m3 := Memref.whole cc0_scratch4
abbrev sc5 : Memref sig .tc .vmem S256x3072 .fp8e4m3 := Memref.whole cc0_scratch5
abbrev sc6 : Memref sig .tc .vmem S256x1 .f32 := Memref.whole cc0_scratch6
abbrev sc7 : Memref sig .tc .vmem S256x4096 .f32 := Memref.whole cc0_scratch7
abbrev sc8 : Memref sig .tc .vmem S256x4096 .fp8e4m3 := Memref.whole cc0_scratch8
abbrev sc9 : Memref sig .tc .vmem S256x1 .f32 := Memref.whole cc0_scratch9
abbrev sc10 : Memref sig .tc .vmem S256x3072 .bf16 := Memref.whole cc0_scratch10
abbrev hb0 : Memref sig .tc .hbm S256x3072 .bf16 := Memref.whole main_v0
abbrev hb1 : Memref sig .tc .hbm S3072x8192 .fp8e4m3 := Memref.whole main_arg1
abbrev hb2 : Memref sig .tc .hbm S1x8192 .f32 := Memref.whole main_v1
abbrev hb3 : Memref sig .tc .hbm S4096x3072 .fp8e4m3 := Memref.whole main_arg3
abbrev hb4 : Memref sig .tc .hbm S1x3072 .f32 := Memref.whole main_v2
abbrev hb5 : Memref sig .tc .hbm S256x3072 .bf16 := Memref.whole main_v3_0
abbrev hb6 : Memref sig .tc .hbm S256x3072 .fp8e4m3 := Memref.whole main_v3_1
abbrev hb7 : Memref sig .tc .hbm S256x1 .f32 := Memref.whole main_v3_2
abbrev hb8 : Memref sig .tc .hbm S256x4096 .fp8e4m3 := Memref.whole main_v3_3
abbrev hb9 : Memref sig .tc .hbm S256x1 .f32 := Memref.whole main_v3_4

/-- The contents of a memref's buffer on core `c`. -/
abbrev HbBuf (c : Dev nD) {sp : Space} {S : Shape} {e : EltTy} (M : Memref sig .tc sp S e) : Type := Buf (Elt F) (M.view.loc (c : Thread nD τ))
/-- A memref's buffer held whole at contents `f`. -/
abbrev hbPt (c : Dev nD) {sp : Space} {S : Shape} {e : EltTy} (M : Memref sig .tc sp S e) (f : HbBuf (F := F) c M) : sProp 𝕄 :=
  M.view.loc (c : Thread nD τ) ↦{fullShare} f

/-- The body's 63 DMA cells, each at zero. -/
abbrev cells0 (c : Dev nD) : sProp 𝕄 :=
  iprop(semVal ((c : Thread nD τ), SemLoc.dma 0) 0  ∗ semVal ((c : Thread nD τ), SemLoc.dma 1) 0  ∗ semVal ((c : Thread nD τ), SemLoc.dma 2) 0
    ∗ semVal ((c : Thread nD τ), SemLoc.dma 3) 0  ∗ semVal ((c : Thread nD τ), SemLoc.dma 4) 0  ∗ semVal ((c : Thread nD τ), SemLoc.dma 5) 0
    ∗ semVal ((c : Thread nD τ), SemLoc.dma 6) 0  ∗ semVal ((c : Thread nD τ), SemLoc.dma 7) 0  ∗ semVal ((c : Thread nD τ), SemLoc.dma 8) 0
    ∗ semVal ((c : Thread nD τ), SemLoc.dma 9) 0  ∗ semVal ((c : Thread nD τ), SemLoc.dma 10) 0  ∗ semVal ((c : Thread nD τ), SemLoc.dma 11) 0
    ∗ semVal ((c : Thread nD τ), SemLoc.dma 12) 0  ∗ semVal ((c : Thread nD τ), SemLoc.dma 13) 0  ∗ semVal ((c : Thread nD τ), SemLoc.dma 14) 0
    ∗ semVal ((c : Thread nD τ), SemLoc.dma 15) 0  ∗ semVal ((c : Thread nD τ), SemLoc.dma 16) 0  ∗ semVal ((c : Thread nD τ), SemLoc.dma 17) 0
    ∗ semVal ((c : Thread nD τ), SemLoc.dma 18) 0  ∗ semVal ((c : Thread nD τ), SemLoc.dma 19) 0  ∗ semVal ((c : Thread nD τ), SemLoc.dma 20) 0
    ∗ semVal ((c : Thread nD τ), SemLoc.dma 21) 0  ∗ semVal ((c : Thread nD τ), SemLoc.dma 22) 0  ∗ semVal ((c : Thread nD τ), SemLoc.dma 23) 0
    ∗ semVal ((c : Thread nD τ), SemLoc.dma 24) 0  ∗ semVal ((c : Thread nD τ), SemLoc.dma 25) 0  ∗ semVal ((c : Thread nD τ), SemLoc.dma 26) 0
    ∗ semVal ((c : Thread nD τ), SemLoc.dma 27) 0  ∗ semVal ((c : Thread nD τ), SemLoc.dma 28) 0  ∗ semVal ((c : Thread nD τ), SemLoc.dma 29) 0
    ∗ semVal ((c : Thread nD τ), SemLoc.dma 30) 0  ∗ semVal ((c : Thread nD τ), SemLoc.dma 31) 0  ∗ semVal ((c : Thread nD τ), SemLoc.dma 32) 0
    ∗ semVal ((c : Thread nD τ), SemLoc.dma 33) 0  ∗ semVal ((c : Thread nD τ), SemLoc.dma 34) 0  ∗ semVal ((c : Thread nD τ), SemLoc.dma 35) 0
    ∗ semVal ((c : Thread nD τ), SemLoc.dma 36) 0  ∗ semVal ((c : Thread nD τ), SemLoc.dma 37) 0  ∗ semVal ((c : Thread nD τ), SemLoc.dma 38) 0
    ∗ semVal ((c : Thread nD τ), SemLoc.dma 39) 0  ∗ semVal ((c : Thread nD τ), SemLoc.dma 40) 0  ∗ semVal ((c : Thread nD τ), SemLoc.dma 41) 0
    ∗ semVal ((c : Thread nD τ), SemLoc.dma 42) 0  ∗ semVal ((c : Thread nD τ), SemLoc.dma 43) 0  ∗ semVal ((c : Thread nD τ), SemLoc.dma 44) 0
    ∗ semVal ((c : Thread nD τ), SemLoc.dma 45) 0  ∗ semVal ((c : Thread nD τ), SemLoc.dma 46) 0  ∗ semVal ((c : Thread nD τ), SemLoc.dma 47) 0
    ∗ semVal ((c : Thread nD τ), SemLoc.dma 48) 0  ∗ semVal ((c : Thread nD τ), SemLoc.dma 49) 0  ∗ semVal ((c : Thread nD τ), SemLoc.dma 50) 0
    ∗ semVal ((c : Thread nD τ), SemLoc.dma 51) 0  ∗ semVal ((c : Thread nD τ), SemLoc.dma 52) 0  ∗ semVal ((c : Thread nD τ), SemLoc.dma 53) 0
    ∗ semVal ((c : Thread nD τ), SemLoc.dma 54) 0  ∗ semVal ((c : Thread nD τ), SemLoc.dma 55) 0  ∗ semVal ((c : Thread nD τ), SemLoc.dma 56) 0
    ∗ semVal ((c : Thread nD τ), SemLoc.dma 57) 0  ∗ semVal ((c : Thread nD τ), SemLoc.dma 58) 0  ∗ semVal ((c : Thread nD τ), SemLoc.dma 59) 0
    ∗ semVal ((c : Thread nD τ), SemLoc.dma 60) 0  ∗ semVal ((c : Thread nD τ), SemLoc.dma 61) 0  ∗ semVal ((c : Thread nD τ), SemLoc.dma 62) 0)

/-- The scratch buffers, each whole at some contents. -/
abbrev scratches (c : Dev nD) : sProp 𝕄 :=
  iprop((∃ f, hbPt c sc0 f)
    ∗ (∃ f, hbPt c sc1 f)
    ∗ (∃ f, hbPt c sc2 f)
    ∗ (∃ f, hbPt c sc3 f)
    ∗ (∃ f, hbPt c sc4 f)
    ∗ (∃ f, hbPt c sc5 f)
    ∗ (∃ f, hbPt c sc6 f)
    ∗ (∃ f, hbPt c sc7 f)
    ∗ (∃ f, hbPt c sc8 f)
    ∗ (∃ f, hbPt c sc9 f)
    ∗ (∃ f, hbPt c sc10 f))

/-- The operands in HBM, each whole at its contents. -/
abbrev operands (c : Dev nD) (fh0 : HbBuf (F := F) c hb0) (fh1 : HbBuf (F := F) c hb1) (fh2 : HbBuf (F := F) c hb2) (fh3 : HbBuf (F := F) c hb3) (fh4 : HbBuf (F := F) c hb4) : sProp 𝕄 :=
  iprop(hbPt c hb0 fh0 ∗ hbPt c hb1 fh1 ∗ hbPt c hb2 fh2 ∗ hbPt c hb3 fh3 ∗ hbPt c hb4 fh4)

/-- What the body leaves in the five results. -/
structure Outs (F : FTy → Type) [FloatOps F] (c : Dev nD) where
  out : HbBuf (F := F) c hb5
  xCodes : HbBuf (F := F) c hb6
  xScale : HbBuf (F := F) c hb7
  hCodes : HbBuf (F := F) c hb8
  hScale : HbBuf (F := F) c hb9

/-- The results in HBM, each whole at its contents. -/
abbrev results (c : Dev nD) (g : Outs F c) : sProp 𝕄 :=
  iprop(hbPt c hb5 g.out ∗ hbPt c hb6 g.xCodes ∗ hbPt c hb7 g.xScale ∗ hbPt c hb8 g.hCodes ∗ hbPt c hb9 g.hScale)

set_option sl_exec.lendShare "HS5, HS6, HS8, HS9" in
set_option sl_exec.dmaWindow true in
set_option sl_exec.rejoinFuel 80 in
set_option sl_exec.parts true in
/-- The body's run: from the operands, the results and the scratch buffers at any contents, the cells at zero and what
    the core owes, to the results at contents the run finds and everything else as it was, the scratch buffers at some
    contents. -/
def bodyRun (c : Dev nD) (fh0 : HbBuf (F := F) c hb0) (fh1 : HbBuf (F := F) c hb1) (fh2 : HbBuf (F := F) c hb2) (fh3 : HbBuf (F := F) c hb3) (fh4 : HbBuf (F := F) c hb4) (g : Outs F c)
    (fs0 : HbBuf (F := F) c sc0) (fs1 : HbBuf (F := F) c sc1) (fs2 : HbBuf (F := F) c sc2) (fs3 : HbBuf (F := F) c sc3) (fs4 : HbBuf (F := F) c sc4) (fs5 : HbBuf (F := F) c sc5) (fs6 : HbBuf (F := F) c sc6) (fs7 : HbBuf (F := F) c sc7) (fs8 : HbBuf (F := F) c sc8) (fs9 : HbBuf (F := F) c sc9) (fs10 : HbBuf (F := F) c sc10) :
    { g' : Outs F c // ∀ (W : Waits sig Unit) (K : PUnit → sProp 𝕄),
      iprop(operands c fh0 fh1 fh2 fh3 fh4 ∗ results c g
        ∗ hbPt c sc0 fs0 ∗ hbPt c sc1 fs1 ∗ hbPt c sc2 fs2 ∗ hbPt c sc3 fs3 ∗ hbPt c sc4 fs4 ∗ hbPt c sc5 fs5 ∗ hbPt c sc6 fs6 ∗ hbPt c sc7 fs7 ∗ hbPt c sc8 fs8 ∗ hbPt c sc9 fs9 ∗ hbPt c sc10 fs10
        ∗ cells0 (F := F) c ∗ owes (c : Thread nD τ) 0 W
        ∗ (iprop(operands c fh0 fh1 fh2 fh3 fh4 ∗ results c g' ∗ scratches (F := F) c ∗ cells0 (F := F) c
            ∗ (∃ W', owes (c : Thread nD τ) 0 W')) -∗ K ⟨⟩))
      ⊢ wp frame (wpE (defs₀ (F := F)) Variants.none c none) Set.univ (cc0_gated_mlp hb0 (Memref.isWhole_whole _) hb1 (Memref.isWhole_whole _) hb2 (Memref.isWhole_whole _) hb3 (Memref.isWhole_whole _) hb4 (Memref.isWhole_whole _) hb5 (Memref.isWhole_whole _) hb6 (Memref.isWhole_whole _) hb7 (Memref.isWhole_whole _) hb8 (Memref.isWhole_whole _) hb9 (Memref.isWhole_whole _)
        sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) sc10 (Memref.isWhole_whole _)
        cc0_scratch11 cc0_scratch12 cc0_scratch13 cc0_scratch14 cc0_scratch15) K } := by
  obtain ⟨fh5, fh6, fh7, fh8, fh9⟩ := g
  refine ⟨⟨?_, ?_, ?_, ?_, ?_⟩, fun W K => ?run⟩
  case run =>
    dsimp only
    iintro ⟨⟨Hh0, Hh1, Hh2, Hh3, Hh4⟩, ⟨Hh5, Hh6, Hh7, Hh8, Hh9⟩,
      HS0, HS1, HS2, HS3, HS4, HS5, HS6, HS7, HS8, HS9, HS10,
      ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62⟩, HW, Hk⟩
    sl_exec
    sl_step
    iapply Hk
    sl_close

end Cert.KernelIdeal.Hand
end
-- ==== Proof.KernelIdealFrame.lean ====
/-
  The frame of the program: @main's host lines, the one region around the body's run and the host lines after it. The
  region reads the five operands in HBM and writes the five results, both by the body's own transfers
  (`Pipeline.ΦDR`); the program terminates, nothing faults, the five arguments end unchanged and every counter ends
  at zero.
-/
module

public import proofs.«01_k».proof.Proof.KernelIdealBody
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, over the algebra of a body with transfers of its own. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The body's own semaphore cells: the 63 of the pool. -/
abbrev osem0 : Fin 63 → SemLoc sig := fun j => SemLoc.dma j
/-- They are distinct, and none is a cell of the pipeline's. -/
theorem ownSemFacts0 : Pipeline.OwnSemFacts cfg0.spec osem0 := by decide
/-- The 63 cells at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = cells0 (F := F) c := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62] (by decide) (by decide)]; rfl

/-- The buffers in HBM the body's transfers read. -/
def H0 : Finset (Ref sig .tc) := {main_v0, main_arg1, main_v1, main_arg3, main_v2}
/-- They bypass the pipeline. -/
theorem H0_sub : H0 ⊆ Pipeline.restRefs sig cfg0.spec := by decide
/-- The operands, one by one, each at what the region finds. -/
theorem operands_eq (c : Dev nD) :
    (bigSep H0 (fun b => ((c : Thread nD τ).loc b) ↦{fullShare} V m c b) : sProp 𝕄)
      = operands c (V m c main_v0) (V m c main_arg1) (V m c main_v1) (V m c main_arg3) (V m c main_v2) := by
  rw [BI.bigSep_eq_bigSepL_of_eq [main_v0, main_arg1, main_v1, main_arg3, main_v2] (by decide) (by decide)]; rfl
/-- The buffers in HBM the body's transfers write: the five results. -/
def R0 : Finset (Ref sig .tc) := {main_v3_0, main_v3_1, main_v3_2, main_v3_3, main_v3_4}
/-- They bypass the pipeline, and are none of the operands. -/
theorem R0_sub : R0 ⊆ Pipeline.restRefs sig cfg0.spec \ H0 := by decide
/-- The results held whole, one by one, at any contents `g`. -/
theorem results_eq (c : Dev nD) (g : (b : Ref sig .tc) → Buf (Elt F) ((c : Thread nD τ).loc b)) :
    (bigSep R0 (fun b => ((c : Thread nD τ).loc b) ↦{fullShare} g b) : sProp 𝕄)
      = results c ⟨g main_v3_0, g main_v3_1, g main_v3_2, g main_v3_3, g main_v3_4⟩ := by
  rw [BI.bigSep_eq_bigSepL_of_eq [main_v3_0, main_v3_1, main_v3_2, main_v3_3, main_v3_4] (by decide) (by decide)]; rfl
/-- The results held whole, one by one, at contents nothing names. -/
theorem owned_eq (c : Dev nD) :
    (Pipeline.owned R0 c : sProp 𝕄)
      = iprop((∃ f, hbPt c hb5 f) ∗ (∃ f, hbPt c hb6 f) ∗ (∃ f, hbPt c hb7 f) ∗ (∃ f, hbPt c hb8 f) ∗ (∃ f, hbPt c hb9 f)) := by
  unfold Pipeline.owned; rw [BI.bigSep_eq_bigSepL_of_eq [main_v3_0, main_v3_1, main_v3_2, main_v3_3, main_v3_4] (by decide) (by decide)]; rfl

/-- The buffers the lines after the region write. -/
def T0 : Finset (Ref sig .tc) := {main_v4, main_v5, main_v6, main_v7, main_v8}
/-- Those lines write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  intro b hb
  rcases hop with rfl | rfl | rfl | rfl | rfl <;>
  · simp only [StableHlo.reshape_writes, Finset.mem_singleton] at hb
    obtain rfl := Proc.devRef_injective _ hb
    decide

/-- The region's scoped buffers are the body's scratch buffers. -/
theorem scratches_eq (c : Dev nD) :
    (Pipeline.scopedRest (Ix := Unit) (Name := ℕ) (U := Pipeline.UD sig nD τ) (Lvl := ℕ) (Val := Elt F) cfg0.spec c : sProp 𝕄)
      = scratches (F := F) c := scopedRest0_eq c

/-- The region's invariant, one by one: the scratch buffers, the generator register, the cells at zero, the operands,
    the results. -/
theorem PhiDR_eq (c : Dev nD) :
    (Pipeline.ΦDR osem0 cfg0.spec H0 R0 (V m) c : sProp 𝕄)
      = iprop(scratches (F := F) c ∗ (∃ r, prngReg c r) ∗ cells0 (F := F) c ∗ operands c (V m c main_v0) (V m c main_arg1) (V m c main_v1) (V m c main_arg3) (V m c main_v2)
          ∗ ((∃ f, hbPt c hb5 f) ∗ (∃ f, hbPt c hb6 f) ∗ (∃ f, hbPt c hb7 f) ∗ (∃ f, hbPt c hb8 f) ∗ (∃ f, hbPt c hb9 f))) := by
  rw [Pipeline.ΦDR_eq, scratches_eq, ownSems00_eq, operands_eq, owned_eq]

/-- The proof data of the one pipeline, which stages nothing: the invariant is the same before and after the body. -/
def dats (_ : Fin 1) (c : Dev nD) : Dat τ (Elt F) Unit ℕ (Pipeline.UD sig nD τ) ℕ cfg0 c where
  A w := w.elim0
  after w := w.elim0
  Φ _ := Pipeline.ΦDR osem0 cfg0.spec H0 R0 (V m) c
  q _ := fullShare
  owed _ := 0

/-- The body at the grid's one point keeps the invariant: the run. -/
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
          (fun _ => iprop((dats m 0 c).Φ t.succ ∗ (dats m 0 c).owesAt () t.succ ∗ emp)) := by
  unfold bodyAt0
  rw [show (dats m 0 c).Φ t.succ = (dats m 0 c).Φ t.castSucc from rfl]
  rw [show (dats m 0 c).Φ t.castSucc = Pipeline.ΦDR osem0 cfg0.spec H0 R0 (V m) c from rfl, PhiDR_eq]
  unfold Dat.owesAt Pipeline.owesWithin
  rw [show (dats m 0 c).owed t.castSucc = 0 from rfl, show (dats m 0 c).owed t.succ = 0 from rfl]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩⟩, Hg, Hq, Hh, ⟨⟨%g5, Hg5⟩, ⟨%g6, Hg6⟩, ⟨%g7, Hg7⟩, ⟨%g8, Hg8⟩, ⟨%g9, Hg9⟩⟩⟩, ⟨%W, -, HW⟩, He⟩
  iapply ((bodyRun c (V m c main_v0) (V m c main_arg1) (V m c main_v1) (V m c main_arg3) (V m c main_v2) ⟨g5, g6, g7, g8, g9⟩ s0 s1 s2 s3 s4 s5 s6 s7 s8 s9 s10).2 W _)
  isplitl [Hh]; · iexact Hh
  isplitl [Hg5 Hg6 Hg7 Hg8 Hg9]
  · isplitl [Hg5]; · iexact Hg5
    isplitl [Hg6]; · iexact Hg6
    isplitl [Hg7]; · iexact Hg7
    isplitl [Hg8]; · iexact Hg8
    iexact Hg9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [Hq]; · iexact Hq
  isplitl [HW]; · iexact HW
  iintro ⟨Hh, ⟨Hg5, Hg6, Hg7, Hg8, Hg9⟩, HS, Hq, ⟨%W', HW'⟩⟩
  isplitl [HS Hg Hq Hh Hg5 Hg6 Hg7 Hg8 Hg9]
  · isplitl [HS]; · iexact HS
    isplitl [Hg]; · iexact Hg
    isplitl [Hq]; · iexact Hq
    isplitl [Hh]; · iexact Hh
    isplitl [Hg5]; · iexists _; iexact Hg5
    isplitl [Hg6]; · iexists _; iexact Hg6
    isplitl [Hg7]; · iexists _; iexact Hg7
    isplitl [Hg8]; · iexists _; iexact Hg8
    iexists _; iexact Hg9
  isplitl [HW']
  · iexists W'; isplitr; · ipureintro; exact fun _ _ => Or.inl trivial
    iexact HW'
  iexact He

/-- The body table's row at the grid's point is the body. -/
theorem defs₀_row (t : Fin cfg0.N) :
    defs₀ (F := F) .tc cfg0.body (cfg0.bodyArgs t (cfg0.slots t)) = bodyAt0 t := by
  unfold defs₀; rw [Defs.onTc_tc]

/-- A product over no windows is empty. -/
theorem bigSep_none (Φ : Fin cfg0.W → sProp 𝕄) : bigSep Finset.univ Φ = BI.emp := rfl

/-- The library's body obligation. -/
theorem body_obligation (c : Dev nD) : BodyObligation (dats (F := F) m 0 c) (defs₀ (F := F)) Variants.none () Set.univ := fun t => by
  rw [bigSep_none, bigSep_none, defs₀_row]
  exact triple_restated (sound_body m c t) rfl .rfl fun _ => .rfl

set_option backward.isDefEq.respectTransparency.types false in
set_option maxHeartbeats 800000 in
/-- The run of @main: every buffer that bypasses the region and that nobody writes ends as the region found it, and
    every counter ends at zero. -/
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmainD m Variants.none) (hA := fun _ w => w.elim0)
    (hin := fun _ => .rfl) (hout := fun _ => .rfl)

/-- The frame claim: the five arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.KernelIdeal.Hand

end
-- ==== Proof.Slots.lean ====
/-
  What the kernel's transfers leave in its scratch buffers, index by index: a write whose payload is a block of one
  function leaves that function on the block, so the 32 copies of the gate/up weights and the 12 copies of the down
  weights leave two closed functions of the operands.
-/
module

public import proofs.«01_k».proof.Proof.Gen.KernelIdeal.Launch
public import Idealize.ShloMosaic.Lib.Pointwise
public import Idealize.ShloMosaic.Lib.ValueLayout
public import Idealize.ShloMosaic.Lib.Pipeline.ReadBack
public import Idealize.ShloMosaic.Lib.Pipeline.ValueKit.Tiles

@[expose] public section

noncomputable section

namespace Cert.KernelIdeal.Slots

open Cert.KernelIdeal
open Idealize.ShloMosaic

/-- A write of a block of `C` over contents that are `C` on `P` leaves `C` on `P` and on the block. -/
theorem write_block {sig : RefSig} {κ : Kind} {sp : Space} {s : Shape} {e : EltTy} {Val : EltTy → Type} (v : View sig κ sp s e)
    (f : v.ty.Contents Val) (w : s.Idx → Val e) (C : v.ty.Contents Val) (P : v.ty.Idx → Prop)
    (hw : ∀ x, w x = View.read Val v C x) (hf : ∀ i, P i → f i = C i) (i : v.ty.Idx) (hi : (∃ x, v.emb x = i) ∨ P i) :
    View.write Val v f w Finset.univ i = C i := by
  by_cases h : ∃ x, v.emb x = i
  · obtain ⟨x, rfl⟩ := h
    rw [View.write_emb_of_mem _ _ (Finset.mem_univ x), hw, View.read_apply, cast_cast, cast_eq]
  · rw [View.write_of_not_mem]
    · exact hf i (hi.resolve_left h)
    · intro hm
      obtain ⟨x, _, hx⟩ := Finset.mem_map.1 hm
      exact h ⟨x, hx⟩

variable {F : FTy → Type} [FloatOps F]

/-- The column of the gate/up weights that tile `j` holds at its column `q`: gate columns, then up columns. -/
def col (j : Fin 16) (q : Fin 512) : Fin 8192 := ⟨if q.1 < 256 then 256 * j.1 + q.1 else 3840 + 256 * j.1 + q.1, by split <;> omega⟩

/-- The gate/up weights tile by tile. -/
def w1C (W : S3072x8192.Idx → Elt F .fp8e4m3) : S16x3072x512.Idx → Elt F .fp8e4m3 :=
  fun i => W (ix2 (i 1) (col (i 0) (i 2)))

/-- Where half `o` of tile `j` lies. -/
theorem w1_emb (j o : ℕ) (h1) (h2) (h3) (hj : j < 16) (ho : o ≤ 256) (k : Fin 3072) (q : Fin 256) :
    (((Memref.whole cc0_scratch3 : Memref sig .tc .vmem S16x3072x512 .fp8e4m3).slice (Rect.unit (s := S16x3072x512) ![j, 0, o] S1x3072x256.size h1) h2).squeeze S3072x256 h3).view.emb (ix2 k q)
      = (ix3 (⟨j, hj⟩ : Fin 16) k (⟨o + q, by omega⟩ : Fin 512) : S16x3072x512.Idx) := by
  show (Rect.unit (s := S16x3072x512) ![j, 0, o] S1x3072x256.size h1).emb (Shape.reshapeEquiv _ (ix2 k q)) = _
  rw [show Shape.reshapeEquiv _ (ix2 k q) = (ix3 (0 : Fin 1) k q : S1x3072x256.Idx) from
    Shape.reshapeEquiv_eq_of_rowMajor _ (by
      rw [Shape.rowMajor_val_three, Shape.rowMajor_val_two]
      show (0 * 3072 + k.1) * 256 + q.1 = k.1 * 256 + q.1
      omega)]
  funext a
  refine Fin.ext ?_
  rw [Rect.emb_apply]
  fin_cases a
  · show j + 1 * 0 = j
    omega
  · show 0 + 1 * k.1 = k.1
    omega
  · show o + 1 * q.1 = o + q.1
    omega

/-- Columns `o` on of the gate/up weights, read through their window of the operand. -/
theorem w1_read (c0 : ℕ) (h1) (h2) (hc : c0 + 256 ≤ 8192) (W : S3072x8192.Idx → Elt F .fp8e4m3) (k : Fin 3072) (q : Fin 256) :
    View.read (Elt F) ((Memref.whole main_arg1 : Memref sig .tc .hbm S3072x8192 .fp8e4m3).slice (Rect.unit (s := S3072x8192) ![0, c0] S3072x256.size h1) h2).view W (ix2 k q)
      = W (ix2 k (⟨c0 + q, by omega⟩ : Fin 8192)) := by
  rw [View.read_apply, cast_eq]
  show W ((Rect.unit (s := S3072x8192) ![0, c0] S3072x256.size h1).emb (ix2 k q)) = _
  refine congrArg W (funext fun a => Fin.ext ?_)
  rw [Rect.emb_apply]
  fin_cases a
  · show 0 + 1 * k.1 = k.1
    omega
  · show c0 + 1 * q.1 = c0 + q.1
    omega

/-- The first `n` half tiles of the gate/up weights are in place. -/
def W1At (W : S3072x8192.Idx → Elt F .fp8e4m3) (g : S16x3072x512.Idx → Elt F .fp8e4m3) (n : ℕ) : Prop :=
  ∀ i : S16x3072x512.Idx, 2 * (i 0).1 + (i 2).1 / 256 < n → g i = w1C W i

/-- One more half tile of the gate/up weights. -/
theorem w1_step {W : S3072x8192.Idx → Elt F .fp8e4m3} {g : S16x3072x512.Idx → Elt F .fp8e4m3} {j o c0 : ℕ} {h1} {h2} {h3} {h4} {h5} (n : ℕ)
    (hj : j < 16 ∧ (o = 0 ∧ c0 = 256 * j ∨ o = 256 ∧ c0 = 4096 + 256 * j) ∧ n = 2 * j + o / 256) (hg : W1At W g n) :
    W1At W (View.write (Elt F) (((Memref.whole cc0_scratch3 : Memref sig .tc .vmem S16x3072x512 .fp8e4m3).slice (Rect.unit (s := S16x3072x512) ![j, 0, o] S1x3072x256.size h1) h2).squeeze S3072x256 h3).view g
      (ReadAs.same.apply (View.read (Elt F) ((Memref.whole main_arg1 : Memref sig .tc .hbm S3072x8192 .fp8e4m3).slice (Rect.unit (s := S3072x8192) ![0, c0] S3072x256.size h4) h5).view W)) Finset.univ) (n + 1) := by
  obtain ⟨hj, ho, hn⟩ := hj
  have ho' : o ≤ 256 := by omega
  have hc : c0 + 256 ≤ 8192 := by omega
  intro i hi
  refine write_block (((Memref.whole cc0_scratch3 : Memref sig .tc .vmem S16x3072x512 .fp8e4m3).slice (Rect.unit (s := S16x3072x512) ![j, 0, o] S1x3072x256.size h1) h2).squeeze S3072x256 h3).view g _ (w1C W)
    (fun i => 2 * (i 0).1 + (i 2).1 / 256 < n) (fun x => ?_) hg i ?_
  · obtain ⟨k, q, rfl⟩ : ∃ (k : Fin 3072) (q : Fin 256), x = ix2 k q := ⟨x 0, x 1, eq_ix2 x⟩
    rw [View.read_apply, cast_eq, w1_emb j o h1 h2 h3 hj ho' k q]
    refine (w1_read c0 h4 h5 hc W k q).trans ?_
    refine congrArg W (congrArg (ix2 k) (Fin.ext ?_))
    show c0 + q.1 = if o + q.1 < 256 then 256 * j + (o + q.1) else 3840 + 256 * j + (o + q.1)
    split <;> omega
  · by_cases h : 2 * (i 0).1 + (i 2).1 / 256 < n
    · exact .inr h
    · have h2' : (i 2).1 < 512 := (i 2).2
      refine .inl ⟨ix2 (i 1) (⟨(i 2).1 - o, by omega⟩ : Fin 256), ?_⟩
      refine (w1_emb j o h1 h2 h3 hj ho' (i 1) _).trans ?_
      refine (congrArg₂ (fun a b => (ix3 a (i 1) b : S16x3072x512.Idx)) (Fin.ext ?_) (Fin.ext ?_)).trans (ix3_eta i)
      · show j = (i 0).1
        omega
      · show o + ((i 2).1 - o) = (i 2).1
        omega

/-- A tile of the gate/up weights read back. -/
theorem w1_load (W : S3072x8192.Idx → Elt F .fp8e4m3) (g : S16x3072x512.Idx → Elt F .fp8e4m3) (hg : W1At W g 32) (j : ℕ) (hj : j < 16) (h1)
    (k : Fin 3072) (q : Fin 512) :
    View.readAt (Elt F) (Memref.whole cc0_scratch3 : Memref sig .tc .vmem S16x3072x512 .fp8e4m3).view (Rect.unit (s := S16x3072x512) ![j, 0, 0] S1x3072x512.size h1).toLoadRect g (ix3 0 k q)
      = W (ix2 k (col ⟨j, hj⟩ q)) := by
  have e : (Rect.unit (s := S16x3072x512) ![j, 0, 0] S1x3072x512.size h1).toLoadRect.idx (ix3 (0 : Fin 1) k q) = (ix3 (⟨j, hj⟩ : Fin 16) k q : S16x3072x512.Idx) := by
    funext a
    refine Fin.ext ?_
    rw [show (Rect.unit (s := S16x3072x512) ![j, 0, 0] S1x3072x512.size h1).toLoadRect.idx = (Rect.unit (s := S16x3072x512) ![j, 0, 0] S1x3072x512.size h1).idx from rfl, Rect.idx_unit_val]
    fin_cases a
    · show j + 0 = j
      omega
    · show 0 + k.1 = k.1
      omega
    · show 0 + q.1 = q.1
      omega
  rw [View.readAt_apply, View.read_apply, cast_eq]
  show g ((Rect.unit (s := S16x3072x512) ![j, 0, 0] S1x3072x512.size h1).toLoadRect.idx (ix3 (0 : Fin 1) k q)) = _
  rw [e, hg _ (by show 2 * j + q.1 / 256 < 32; omega)]
  rfl

/-! ## The down weights, by the same steps -/

/-- The down weights tile by tile. -/
def w2C (W : S4096x3072.Idx → Elt F .fp8e4m3) : S12x4096x256.Idx → Elt F .fp8e4m3 :=
  fun i => W (ix2 (i 1) (⟨256 * (i 0).1 + (i 2).1, by have := (i 0).2; have := (i 2).2; simp only [S12x4096x256] at *; simp at *; omega⟩ : Fin 3072))

/-- Where tile `j` lies. -/
theorem w2_emb (j : ℕ) (h1) (h2) (h3) (hj : j < 12) (k : Fin 4096) (q : Fin 256) :
    (((Memref.whole cc0_scratch4 : Memref sig .tc .vmem S12x4096x256 .fp8e4m3).slice (Rect.unit (s := S12x4096x256) ![j, 0, 0] S1x4096x256.size h1) h2).squeeze S4096x256 h3).view.emb (ix2 k q)
      = (ix3 (⟨j, hj⟩ : Fin 12) k q : S12x4096x256.Idx) := by
  show (Rect.unit (s := S12x4096x256) ![j, 0, 0] S1x4096x256.size h1).emb (Shape.reshapeEquiv _ (ix2 k q)) = _
  rw [show Shape.reshapeEquiv _ (ix2 k q) = (ix3 (0 : Fin 1) k q : S1x4096x256.Idx) from
    Shape.reshapeEquiv_eq_of_rowMajor _ (by
      rw [Shape.rowMajor_val_three, Shape.rowMajor_val_two]
      show (0 * 4096 + k.1) * 256 + q.1 = k.1 * 256 + q.1
      omega)]
  funext a
  refine Fin.ext ?_
  rw [Rect.emb_apply]
  fin_cases a
  · show j + 1 * 0 = j
    omega
  · show 0 + 1 * k.1 = k.1
    omega
  · show 0 + 1 * q.1 = q.1
    omega

/-- Columns `c0` on of the down weights, read through their window of the operand. -/
theorem w2_read (c0 : ℕ) (h1) (h2) (hc : c0 + 256 ≤ 3072) (W : S4096x3072.Idx → Elt F .fp8e4m3) (k : Fin 4096) (q : Fin 256) :
    View.read (Elt F) ((Memref.whole main_arg3 : Memref sig .tc .hbm S4096x3072 .fp8e4m3).slice (Rect.unit (s := S4096x3072) ![0, c0] S4096x256.size h1) h2).view W (ix2 k q)
      = W (ix2 k (⟨c0 + q, by omega⟩ : Fin 3072)) := by
  rw [View.read_apply, cast_eq]
  show W ((Rect.unit (s := S4096x3072) ![0, c0] S4096x256.size h1).emb (ix2 k q)) = _
  refine congrArg W (funext fun a => Fin.ext ?_)
  rw [Rect.emb_apply]
  fin_cases a
  · show 0 + 1 * k.1 = k.1
    omega
  · show c0 + 1 * q.1 = c0 + q.1
    omega

/-- The first `n` tiles of the down weights are in place. -/
def W2At (W : S4096x3072.Idx → Elt F .fp8e4m3) (g : S12x4096x256.Idx → Elt F .fp8e4m3) (n : ℕ) : Prop :=
  ∀ i : S12x4096x256.Idx, (i 0).1 < n → g i = w2C W i

/-- One more tile of the down weights. -/
theorem w2_step {W : S4096x3072.Idx → Elt F .fp8e4m3} {g : S12x4096x256.Idx → Elt F .fp8e4m3} {j c0 : ℕ} {h1} {h2} {h3} {h4} {h5} (n : ℕ)
    (hj : j < 12 ∧ c0 = 256 * j ∧ n = j) (hg : W2At W g n) :
    W2At W (View.write (Elt F) (((Memref.whole cc0_scratch4 : Memref sig .tc .vmem S12x4096x256 .fp8e4m3).slice (Rect.unit (s := S12x4096x256) ![j, 0, 0] S1x4096x256.size h1) h2).squeeze S4096x256 h3).view g
      (ReadAs.same.apply (View.read (Elt F) ((Memref.whole main_arg3 : Memref sig .tc .hbm S4096x3072 .fp8e4m3).slice (Rect.unit (s := S4096x3072) ![0, c0] S4096x256.size h4) h5).view W)) Finset.univ) (n + 1) := by
  obtain ⟨hj, hc', hn⟩ := hj
  have hc : c0 + 256 ≤ 3072 := by omega
  intro i hi
  refine write_block (((Memref.whole cc0_scratch4 : Memref sig .tc .vmem S12x4096x256 .fp8e4m3).slice (Rect.unit (s := S12x4096x256) ![j, 0, 0] S1x4096x256.size h1) h2).squeeze S4096x256 h3).view g _ (w2C W)
    (fun i => (i 0).1 < n) (fun x => ?_) hg i ?_
  · obtain ⟨k, q, rfl⟩ : ∃ (k : Fin 4096) (q : Fin 256), x = ix2 k q := ⟨x 0, x 1, eq_ix2 x⟩
    rw [View.read_apply, cast_eq, w2_emb j h1 h2 h3 hj k q]
    refine (w2_read c0 h4 h5 hc W k q).trans ?_
    refine congrArg W (congrArg (ix2 k) (Fin.ext ?_))
    show c0 + q.1 = 256 * j + q.1
    omega
  · by_cases h : (i 0).1 < n
    · exact .inr h
    · refine .inl ⟨ix2 (i 1) (i 2), ?_⟩
      refine (w2_emb j h1 h2 h3 hj (i 1) (i 2)).trans ?_
      refine (congrArg (fun a => (ix3 a (i 1) (i 2) : S12x4096x256.Idx)) (Fin.ext ?_)).trans (ix3_eta i)
      show j = (i 0).1
      omega

/-- A tile of the down weights read back. -/
theorem w2_load (W : S4096x3072.Idx → Elt F .fp8e4m3) (g : S12x4096x256.Idx → Elt F .fp8e4m3) (hg : W2At W g 12) (j : ℕ) (hj : j < 12) (h1)
    (k : Fin 4096) (q : Fin 256) :
    View.readAt (Elt F) (Memref.whole cc0_scratch4 : Memref sig .tc .vmem S12x4096x256 .fp8e4m3).view (Rect.unit (s := S12x4096x256) ![j, 0, 0] S1x4096x256.size h1).toLoadRect g (ix3 0 k q)
      = W (ix2 k (⟨256 * j + q.1, by omega⟩ : Fin 3072)) := by
  have e : (Rect.unit (s := S12x4096x256) ![j, 0, 0] S1x4096x256.size h1).toLoadRect.idx (ix3 (0 : Fin 1) k q) = (ix3 (⟨j, hj⟩ : Fin 12) k q : S12x4096x256.Idx) := by
    funext a
    refine Fin.ext ?_
    rw [show (Rect.unit (s := S12x4096x256) ![j, 0, 0] S1x4096x256.size h1).toLoadRect.idx = (Rect.unit (s := S12x4096x256) ![j, 0, 0] S1x4096x256.size h1).idx from rfl, Rect.idx_unit_val]
    fin_cases a
    · show j + 0 = j
      omega
    · show 0 + k.1 = k.1
      omega
    · show 0 + q.1 = q.1
      omega
  rw [View.readAt_apply, View.read_apply, cast_eq]
  show g ((Rect.unit (s := S12x4096x256) ![j, 0, 0] S1x4096x256.size h1).toLoadRect.idx (ix3 (0 : Fin 1) k q)) = _
  rw [e, hg _ (by show j < 12; omega)]
  rfl

/-! ## The weight scales -/

/-- A run of 256 gate/up weight scales, read from the scratch buffer the whole row was copied to. -/
theorem s1_load (f : S1x8192.Idx → Elt F .f32) (s : S1x8192.Idx → Elt F .f32) (c0 : ℕ) (h1) (hc : c0 + 256 ≤ 8192) (q : Fin 256) :
    View.readAt (Elt F) (Memref.whole cc0_scratch1 : Memref sig .tc .vmem S1x8192 .f32).view (Rect.unit (s := S1x8192) ![0, c0] S1x256.size h1).toLoadRect
        (View.write (Elt F) (Memref.whole cc0_scratch1 : Memref sig .tc .vmem S1x8192 .f32).view f
          (ReadAs.same.apply (View.read (Elt F) (Memref.whole main_v1 : Memref sig .tc .hbm S1x8192 .f32).view s)) Finset.univ) (ix2 0 q)
      = s (ix2 0 (⟨c0 + q.1, by omega⟩ : Fin 8192)) := by
  rw [View.readAt_apply, View.read_write_univ]
  show s ((Rect.unit (s := S1x8192) ![0, c0] S1x256.size h1).toLoadRect.idx (ix2 0 q)) = _
  refine congrArg s (funext fun a => Fin.ext ?_)
  rw [show (Rect.unit (s := S1x8192) ![0, c0] S1x256.size h1).toLoadRect.idx = (Rect.unit (s := S1x8192) ![0, c0] S1x256.size h1).idx from rfl, Rect.idx_unit_val]
  fin_cases a
  · rfl
  · rfl

/-- A run of 256 down weight scales, likewise. -/
theorem s2_load (f : S1x3072.Idx → Elt F .f32) (s : S1x3072.Idx → Elt F .f32) (c0 : ℕ) (h1) (hc : c0 + 256 ≤ 3072) (q : Fin 256) :
    View.readAt (Elt F) (Memref.whole cc0_scratch2 : Memref sig .tc .vmem S1x3072 .f32).view (Rect.unit (s := S1x3072) ![0, c0] S1x256.size h1).toLoadRect
        (View.write (Elt F) (Memref.whole cc0_scratch2 : Memref sig .tc .vmem S1x3072 .f32).view f
          (ReadAs.same.apply (View.read (Elt F) (Memref.whole main_v2 : Memref sig .tc .hbm S1x3072 .f32).view s)) Finset.univ) (ix2 0 q)
      = s (ix2 0 (⟨c0 + q.1, by omega⟩ : Fin 3072)) := by
  rw [View.readAt_apply, View.read_write_univ]
  show s ((Rect.unit (s := S1x3072) ![0, c0] S1x256.size h1).toLoadRect.idx (ix2 0 q)) = _
  refine congrArg s (funext fun a => Fin.ext ?_)
  rw [show (Rect.unit (s := S1x3072) ![0, c0] S1x256.size h1).toLoadRect.idx = (Rect.unit (s := S1x3072) ![0, c0] S1x256.size h1).idx from rfl, Rect.idx_unit_val]
  fin_cases a
  · rfl
  · rfl

end Cert.KernelIdeal.Slots
-- ==== Proof.Loads.lean ====
/-
  What the body's run loads from its scratch buffers: x whole, each tile of the two weight matrices. Each loaded value is
  one the run names; here it is a closed function of an operand.
-/
module

public import proofs.«01_k».proof.Proof.KernelIdealBody
import all proofs.«01_k».proof.Proof.KernelIdealBody
public import proofs.«01_k».proof.Proof.Slots

@[expose] public section

set_option maxRecDepth 16384

noncomputable section

namespace Cert.KernelIdeal.Hand

open Cert.KernelIdeal Cert.KernelIdeal.Gen Cert.KernelIdeal.Slots
open Idealize.ShloMosaic

variable {F : FTy → Type} [FloatOps F]

/-- A rectangle from the origin places every index at itself. -/
theorem idx_origin {S : Shape} (off : Fin S.rank → ℕ) (inb) (h : ∀ a, off a = 0) (i : S.Idx) : (Rect.unit (s := S) off S.size inb).idx i = i := by
  funext a
  refine Fin.ext ?_
  rw [Rect.idx_unit_val, h, Nat.zero_add]

/-- x as the body loads it. -/
theorem load_x (c : Dev nD) (fh0 : HbBuf (F := F) c hb0) (fs0 : HbBuf (F := F) c sc0) (inb) :
    View.readAt (Elt F) sc0.view (Rect.unit (s := S256x3072) ![0, 0] S256x3072.size inb).toLoadRect
      (View.write (Elt F) sc0.view fs0 (bodyRun.sl.dma0 c fh0) Finset.univ) = (fh0 : S256x3072.Idx → Elt F .bf16) := by
  funext i
  rw [View.readAt_apply, View.read_write_univ]
  show fh0 ((Rect.unit (s := S256x3072) ![0, 0] S256x3072.size inb).idx i) = fh0 i
  exact congrArg fh0 (idx_origin ![0, 0] inb (fun a => by fin_cases a <;> rfl) i)

/-- A load of tile `j` of the gate/up weights' scratch buffer. -/
def ld1 (g : S16x3072x512.Idx → Elt F .fp8e4m3) (j : ℕ) (h1 : ∀ a, (![j, 0, 0] : Fin 3 → ℕ) a + S1x3072x512.size a ≤ S16x3072x512.size a) :
    S1x3072x512.Idx → Elt F .fp8e4m3 :=
  View.readAt (Elt F) (Memref.whole cc0_scratch3 : Memref sig .tc .vmem S16x3072x512 .fp8e4m3).view (Rect.unit (s := S16x3072x512) ![j, 0, 0] S1x3072x512.size h1).toLoadRect g

/-- A loaded tile of the gate/up weights. -/
def Slot1 (W : S3072x8192.Idx → Elt F .fp8e4m3) (j : ℕ) (v : S1x3072x512.Idx → Elt F .fp8e4m3) : Prop :=
  ∀ (hj : j < 16) (k : Fin 3072) (q : Fin 512), v (ix3 0 k q) = W (ix2 k (col ⟨j, hj⟩ q))

/-- A tile loaded once every copy has landed. -/
theorem slot1_of {W : S3072x8192.Idx → Elt F .fp8e4m3} {g : S16x3072x512.Idx → Elt F .fp8e4m3} (hg : W1At W g 32) (j : ℕ) {h1}
    {v : S1x3072x512.Idx → Elt F .fp8e4m3}
    (hv : v = ld1 g j h1) :
    Slot1 W j v := fun hj k q => hv ▸ w1_load W g hg j hj h1 k q

/-- The sixteen loaded tiles of the gate/up weights. -/
theorem slots1 (c : Dev nD) (fh1 : HbBuf (F := F) c hb1) (fs3 : HbBuf (F := F) c sc3) :
    Slot1 fh1 0 (bodyRun.sl.v371 c fh1 fs3)
      ∧ Slot1 fh1 1 (bodyRun.sl.v413 c fh1 fs3)
      ∧ Slot1 fh1 2 (bodyRun.sl.v451 c fh1 fs3)
      ∧ Slot1 fh1 3 (bodyRun.sl.v489 c fh1 fs3)
      ∧ Slot1 fh1 4 (bodyRun.sl.v527 c fh1 fs3)
      ∧ Slot1 fh1 5 (bodyRun.sl.v565 c fh1 fs3)
      ∧ Slot1 fh1 6 (bodyRun.sl.v603 c fh1 fs3)
      ∧ Slot1 fh1 7 (bodyRun.sl.v641 c fh1 fs3)
      ∧ Slot1 fh1 8 (bodyRun.sl.v679 c fh1 fs3)
      ∧ Slot1 fh1 9 (bodyRun.sl.v717 c fh1 fs3)
      ∧ Slot1 fh1 10 (bodyRun.sl.v755 c fh1 fs3)
      ∧ Slot1 fh1 11 (bodyRun.sl.v793 c fh1 fs3)
      ∧ Slot1 fh1 12 (bodyRun.sl.v831 c fh1 fs3)
      ∧ Slot1 fh1 13 (bodyRun.sl.v869 c fh1 fs3)
      ∧ Slot1 fh1 14 (bodyRun.sl.v907 c fh1 fs3)
      ∧ Slot1 fh1 15 (bodyRun.sl.v945 c fh1 fs3) := by
  obtain ⟨g, hg, e0, e1, e2, e3, e4, e5, e6, e7, e8, e9, e10, e11, e12, e13, e14, e15⟩ : ∃ g : S16x3072x512.Idx → Elt F .fp8e4m3, W1At fh1 g 32
      ∧ bodyRun.sl.v371 c fh1 fs3 = ld1 g 0 inb_S16x3072x512_S1x3072x512_0_0_0
      ∧ bodyRun.sl.v413 c fh1 fs3 = ld1 g 1 inb_S16x3072x512_S1x3072x512_1_0_0
      ∧ bodyRun.sl.v451 c fh1 fs3 = ld1 g 2 inb_S16x3072x512_S1x3072x512_2_0_0
      ∧ bodyRun.sl.v489 c fh1 fs3 = ld1 g 3 inb_S16x3072x512_S1x3072x512_3_0_0
      ∧ bodyRun.sl.v527 c fh1 fs3 = ld1 g 4 inb_S16x3072x512_S1x3072x512_4_0_0
      ∧ bodyRun.sl.v565 c fh1 fs3 = ld1 g 5 inb_S16x3072x512_S1x3072x512_5_0_0
      ∧ bodyRun.sl.v603 c fh1 fs3 = ld1 g 6 inb_S16x3072x512_S1x3072x512_6_0_0
      ∧ bodyRun.sl.v641 c fh1 fs3 = ld1 g 7 inb_S16x3072x512_S1x3072x512_7_0_0
      ∧ bodyRun.sl.v679 c fh1 fs3 = ld1 g 8 inb_S16x3072x512_S1x3072x512_8_0_0
      ∧ bodyRun.sl.v717 c fh1 fs3 = ld1 g 9 inb_S16x3072x512_S1x3072x512_9_0_0
      ∧ bodyRun.sl.v755 c fh1 fs3 = ld1 g 10 inb_S16x3072x512_S1x3072x512_10_0_0
      ∧ bodyRun.sl.v793 c fh1 fs3 = ld1 g 11 inb_S16x3072x512_S1x3072x512_11_0_0
      ∧ bodyRun.sl.v831 c fh1 fs3 = ld1 g 12 inb_S16x3072x512_S1x3072x512_12_0_0
      ∧ bodyRun.sl.v869 c fh1 fs3 = ld1 g 13 inb_S16x3072x512_S1x3072x512_13_0_0
      ∧ bodyRun.sl.v907 c fh1 fs3 = ld1 g 14 inb_S16x3072x512_S1x3072x512_14_0_0
      ∧ bodyRun.sl.v945 c fh1 fs3 = ld1 g 15 inb_S16x3072x512_S1x3072x512_15_0_0 := by
    refine ⟨_, ?_, rfl, rfl, rfl, rfl, rfl, rfl, rfl, rfl, rfl, rfl, rfl, rfl, rfl, rfl, rfl, rfl⟩
    iterate 32 refine w1_step _ (by decide) ?_
    exact fun i hi => absurd hi (Nat.not_lt_zero _)
  exact ⟨slot1_of hg 0 e0, slot1_of hg 1 e1, slot1_of hg 2 e2, slot1_of hg 3 e3, slot1_of hg 4 e4, slot1_of hg 5 e5, slot1_of hg 6 e6, slot1_of hg 7 e7, slot1_of hg 8 e8, slot1_of hg 9 e9, slot1_of hg 10 e10, slot1_of hg 11 e11, slot1_of hg 12 e12, slot1_of hg 13 e13, slot1_of hg 14 e14, slot1_of hg 15 e15⟩

/-- A load of tile `j` of the down weights' scratch buffer. -/
def ld2 (g : S12x4096x256.Idx → Elt F .fp8e4m3) (j : ℕ) (h1 : ∀ a, (![j, 0, 0] : Fin 3 → ℕ) a + S1x4096x256.size a ≤ S12x4096x256.size a) :
    S1x4096x256.Idx → Elt F .fp8e4m3 :=
  View.readAt (Elt F) (Memref.whole cc0_scratch4 : Memref sig .tc .vmem S12x4096x256 .fp8e4m3).view (Rect.unit (s := S12x4096x256) ![j, 0, 0] S1x4096x256.size h1).toLoadRect g

/-- A loaded tile of the down weights. -/
def Slot2 (W : S4096x3072.Idx → Elt F .fp8e4m3) (j : ℕ) (v : S1x4096x256.Idx → Elt F .fp8e4m3) : Prop :=
  ∀ (hj : j < 12) (k : Fin 4096) (q : Fin 256), v (ix3 0 k q) = W (ix2 k ⟨256 * j + q.1, by omega⟩)

/-- A tile loaded once every copy has landed. -/
theorem slot2_of {W : S4096x3072.Idx → Elt F .fp8e4m3} {g : S12x4096x256.Idx → Elt F .fp8e4m3} (hg : W2At W g 12) (j : ℕ) {h1}
    {v : S1x4096x256.Idx → Elt F .fp8e4m3}
    (hv : v = ld2 g j h1) :
    Slot2 W j v := fun hj k q => hv ▸ w2_load W g hg j hj h1 k q

/-- The twelve loaded tiles of the down weights. -/
theorem slots2 (c : Dev nD) (fh3 : HbBuf (F := F) c hb3) (fs4 : HbBuf (F := F) c sc4) :
    Slot2 fh3 0 (bodyRun.sl.v1033 c fh3 fs4)
      ∧ Slot2 fh3 1 (bodyRun.sl.v1059 c fh3 fs4)
      ∧ Slot2 fh3 2 (bodyRun.sl.v1081 c fh3 fs4)
      ∧ Slot2 fh3 3 (bodyRun.sl.v1103 c fh3 fs4)
      ∧ Slot2 fh3 4 (bodyRun.sl.v1125 c fh3 fs4)
      ∧ Slot2 fh3 5 (bodyRun.sl.v1147 c fh3 fs4)
      ∧ Slot2 fh3 6 (bodyRun.sl.v1169 c fh3 fs4)
      ∧ Slot2 fh3 7 (bodyRun.sl.v1191 c fh3 fs4)
      ∧ Slot2 fh3 8 (bodyRun.sl.v1213 c fh3 fs4)
      ∧ Slot2 fh3 9 (bodyRun.sl.v1235 c fh3 fs4)
      ∧ Slot2 fh3 10 (bodyRun.sl.v1257 c fh3 fs4)
      ∧ Slot2 fh3 11 (bodyRun.sl.v1279 c fh3 fs4) := by
  obtain ⟨g, hg, e0, e1, e2, e3, e4, e5, e6, e7, e8, e9, e10, e11⟩ : ∃ g : S12x4096x256.Idx → Elt F .fp8e4m3, W2At fh3 g 12
      ∧ bodyRun.sl.v1033 c fh3 fs4 = ld2 g 0 inb_S12x4096x256_S1x4096x256_0_0_0
      ∧ bodyRun.sl.v1059 c fh3 fs4 = ld2 g 1 inb_S12x4096x256_S1x4096x256_1_0_0
      ∧ bodyRun.sl.v1081 c fh3 fs4 = ld2 g 2 inb_S12x4096x256_S1x4096x256_2_0_0
      ∧ bodyRun.sl.v1103 c fh3 fs4 = ld2 g 3 inb_S12x4096x256_S1x4096x256_3_0_0
      ∧ bodyRun.sl.v1125 c fh3 fs4 = ld2 g 4 inb_S12x4096x256_S1x4096x256_4_0_0
      ∧ bodyRun.sl.v1147 c fh3 fs4 = ld2 g 5 inb_S12x4096x256_S1x4096x256_5_0_0
      ∧ bodyRun.sl.v1169 c fh3 fs4 = ld2 g 6 inb_S12x4096x256_S1x4096x256_6_0_0
      ∧ bodyRun.sl.v1191 c fh3 fs4 = ld2 g 7 inb_S12x4096x256_S1x4096x256_7_0_0
      ∧ bodyRun.sl.v1213 c fh3 fs4 = ld2 g 8 inb_S12x4096x256_S1x4096x256_8_0_0
      ∧ bodyRun.sl.v1235 c fh3 fs4 = ld2 g 9 inb_S12x4096x256_S1x4096x256_9_0_0
      ∧ bodyRun.sl.v1257 c fh3 fs4 = ld2 g 10 inb_S12x4096x256_S1x4096x256_10_0_0
      ∧ bodyRun.sl.v1279 c fh3 fs4 = ld2 g 11 inb_S12x4096x256_S1x4096x256_11_0_0 := by
    refine ⟨_, ?_, rfl, rfl, rfl, rfl, rfl, rfl, rfl, rfl, rfl, rfl, rfl, rfl⟩
    iterate 12 refine w2_step _ (by decide) ?_
    exact fun i hi => absurd hi (Nat.not_lt_zero _)
  exact ⟨slot2_of hg 0 e0, slot2_of hg 1 e1, slot2_of hg 2 e2, slot2_of hg 3 e3, slot2_of hg 4 e4, slot2_of hg 5 e5, slot2_of hg 6 e6, slot2_of hg 7 e7, slot2_of hg 8 e8, slot2_of hg 9 e9, slot2_of hg 10 e10, slot2_of hg 11 e11⟩

end Cert.KernelIdeal.Hand
-- ==== Proof.Filled.lean ====
/-
  A matrix filled 256 columns at a time: what the writes so far leave on the columns they cover, and what one whole write
  leaves.
-/
module

public import Idealize.ShloMosaic.Lib.Pointwise
public import Idealize.ShloMosaic.Lib.Pipeline.ReadBack
public import Idealize.ShloMosaic.Lib.Pipeline.ValueKit.Tiles

@[expose] public section

noncomputable section

namespace Cert.Filled

open Idealize.ShloMosaic

variable {Val : EltTy → Type} [∀ e, Nonempty (Val e)] {e : EltTy} {N : ℕ}

/-- The writes cover the first `n` runs of 256 columns and leave `G` there. -/
def Filled (G : (⟨2, ![256, N]⟩ : Shape).Idx → Val e) (n : ℕ) (L : List (View.Piece Val (⟨2, ![256, N]⟩ : Shape) e)) : Prop :=
  ∀ (r : Fin 256) (k : Fin N), k.1 < 256 * n → (∃ p ∈ L, (ix2 r k : (⟨2, ![256, N]⟩ : Shape).Idx) ∈ p.1.set) ∧ View.canon L (ix2 r k) = G (ix2 r k)

/-- Nothing is covered by no write. -/
theorem filled_zero (G : (⟨2, ![256, N]⟩ : Shape).Idx → Val e) : Filled G 0 [] := fun _ _ h => absurd h (Nat.not_lt_zero _)

/-- One more run of columns. -/
theorem filled_step {G : (⟨2, ![256, N]⟩ : Shape).Idx → Val e} {n c0 : ℕ} {L : List (View.Piece Val (⟨2, ![256, N]⟩ : Shape) e)} (hF : Filled G n L)
    (hc : c0 = 256 * n) (hN : 256 * n + 256 ≤ N) {inb} {T : (⟨2, ![256, 256]⟩ : Shape).Idx → Val e}
    (hT : ∀ r q : Fin 256, T (ix2 r q) = G (ix2 r (⟨256 * n + q.1, by omega⟩ : Fin N))) :
    Filled G (n + 1) (⟨Rect.unit (s := (⟨2, ![256, N]⟩ : Shape)) ![0, c0] ![256, 256] inb, T⟩ :: L) := by
  intro r k hk
  by_cases h : 256 * n ≤ k.1
  · have e : (Rect.unit (s := (⟨2, ![256, N]⟩ : Shape)) ![0, c0] ![256, 256] inb).emb (ix2 r (⟨k.1 - 256 * n, by omega⟩ : Fin 256))
        = (ix2 r k : (⟨2, ![256, N]⟩ : Shape).Idx) := by
      funext a
      refine Fin.ext ?_
      rw [Rect.emb_apply]
      fin_cases a
      · show 0 + 1 * r.1 = r.1
        omega
      · show c0 + 1 * (k.1 - 256 * n) = k.1
        omega
    have hm : (ix2 r k : (⟨2, ![256, N]⟩ : Shape).Idx) ∈ (Rect.unit (s := (⟨2, ![256, N]⟩ : Shape)) ![0, c0] ![256, 256] inb).set := by
      refine Rect.mem_set_unit.mpr fun a => ?_
      fin_cases a
      · exact ⟨Nat.zero_le _, by show r.1 < 0 + 256; omega⟩
      · exact ⟨by show c0 ≤ k.1; omega, by show k.1 < c0 + 256; omega⟩
    refine ⟨⟨_, List.mem_cons_self, hm⟩, ?_⟩
    rw [← e, View.canon_cons_emb]
    refine (hT r _).trans ?_
    rw [e]
    refine congrArg G (congrArg (ix2 r) (Fin.ext ?_))
    show 256 * n + (k.1 - 256 * n) = k.1
    omega
  · obtain ⟨⟨p, hp, hm⟩, hcan⟩ := hF r k (by omega)
    refine ⟨⟨p, List.mem_cons_of_mem _ hp, hm⟩, ?_⟩
    rw [View.canon_cons_of_not_mem, hcan]
    intro hmem
    have := ((Rect.mem_set_unit (inb := inb)).mp hmem 1).1
    replace this : c0 ≤ k.1 := this
    omega

/-- Reading the buffer back where it is filled. -/
theorem filled_read {sig : RefSig} {κ : Kind} {sp : Space} {G : (⟨2, ![256, N]⟩ : Shape).Idx → Val e} {n : ℕ}
    {L : List (View.Piece Val (⟨2, ![256, N]⟩ : Shape) e)} (hF : Filled G n L) (v : View sig κ sp (⟨2, ![256, N]⟩ : Shape) e)
    (f : v.ty.Contents Val) (r : Fin 256) (k : Fin N) (hk : k.1 < 256 * n) : View.read Val v (v.writes Val f L) (ix2 r k) = G (ix2 r k) :=
  (View.read_writes_apply_eq_canon v f _ L (hF r k hk).1).trans (hF r k hk).2

/-- Reading it all back once it is all filled. -/
theorem filled_read_all {sig : RefSig} {κ : Kind} {sp : Space} {G : (⟨2, ![256, N]⟩ : Shape).Idx → Val e} {n : ℕ}
    {L : List (View.Piece Val (⟨2, ![256, N]⟩ : Shape) e)} (hF : Filled G n L) (hn : N ≤ 256 * n) (v : View sig κ sp (⟨2, ![256, N]⟩ : Shape) e)
    (f : v.ty.Contents Val) : View.read Val v (v.writes Val f L) = G := by
  funext i
  obtain ⟨r, k, rfl⟩ : ∃ (r : Fin 256) (k : Fin N), i = ix2 r k := ⟨i 0, i 1, eq_ix2 i⟩
  exact filled_read hF v f r k (by omega)

/-- A load of the whole of it, once it is all filled. -/
theorem filled_load {sig : RefSig} {κ : Kind} {sp : Space} {G : (⟨2, ![256, N]⟩ : Shape).Idx → Val e} {n : ℕ}
    {L : List (View.Piece Val (⟨2, ![256, N]⟩ : Shape) e)} (hF : Filled G n L) (hn : N ≤ 256 * n) (v : View sig κ sp (⟨2, ![256, N]⟩ : Shape) e)
    {inb} : v.readCov L (Rect.unit (s := (⟨2, ![256, N]⟩ : Shape)) ![0, 0] ![256, N] inb).toLoadRect = G := by
  rw [View.readCov_eq_canon']
  funext i
  obtain ⟨r, k, rfl⟩ : ∃ (r : Fin 256) (k : Fin N), i = ix2 r k := ⟨i 0, i 1, eq_ix2 i⟩
  have e : (Rect.unit (s := (⟨2, ![256, N]⟩ : Shape)) ![0, 0] ![256, N] inb).toLoadRect.idx (ix2 r k) = (ix2 r k : (⟨2, ![256, N]⟩ : Shape).Idx) := by
    funext a
    refine Fin.ext ?_
    rw [show (Rect.unit (s := (⟨2, ![256, N]⟩ : Shape)) ![0, 0] ![256, N] inb).toLoadRect.idx = (Rect.unit (s := (⟨2, ![256, N]⟩ : Shape)) ![0, 0] ![256, N] inb).idx from rfl, Rect.idx_unit_val]
    fin_cases a
    · show 0 + r.1 = r.1
      omega
    · show 0 + k.1 = k.1
      omega
  rw [e]
  exact (hF r k (by omega)).2

/-- One write of the whole, read back through any view. -/
theorem whole_read {sig : RefSig} {κ : Kind} {sp : Space} {S : Shape} (v : View sig κ sp S e) (f : v.ty.Contents Val) {off : Fin S.rank → ℕ}
    (inb : ∀ a, off a + S.size a ≤ S.size a) (Z : S.Idx → Val e) (h : ∀ a, off a = 0) :
    View.read Val v (v.writes Val f [(⟨Rect.unit off S.size inb, Z⟩ : View.Piece Val S e)]) = Z := by
  funext y
  rw [View.read_writes_apply_eq_canon, View.canon_cons_unit_lit inb Z [] h]
  have hm : y ∈ (Rect.unit off S.size inb).set := by
    refine Rect.mem_set_unit.mpr fun a => ?_
    rw [h]
    exact ⟨Nat.zero_le _, by have := (y a).2; omega⟩
  exact ⟨_, List.mem_cons_self, hm⟩

end Cert.Filled
-- ==== Proof.Scale.lean ====
/-
  The per-token scale, one token at a time over the extended reals: both programs take it as a power of two whose
  exponent is `expo v`, where `v` is the token's greatest magnitude over 448.
-/
module

public import proofs.«01_k».proof.ReferenceIdeal
public import Idealize.ShloMosaic.Lib.Pointwise

@[expose] public section

set_option maxRecDepth 16384

noncomputable section

namespace Cert.Scale

open Idealize.ShloMosaic

/-- The exponent of a token's scale: zero below the least normal number and from 2^120 on, else one more than the
    floor of the base-two logarithm. -/
def expo (v : EReal) : ℤ :=
  if v < (((2 : ℝ) ^ (-126 : ℤ) : ℝ) : EReal) ∨ (((2 : ℝ) ^ (120 : ℤ) : ℝ) : EReal) ≤ v then 0 else ⌊Real.log v.toReal / Real.log 2⌋ + 1

/-- Two to an integer power, as an extended real. -/
def p2 (k : ℤ) : EReal := (((2 : ℝ) ^ k : ℝ) : EReal)

/-- The powers of two keep the order of their exponents. -/
theorem p2_le {a b : ℤ} : p2 a ≤ p2 b ↔ a ≤ b := by
  unfold p2
  rw [EReal.coe_le_coe_iff]
  exact zpow_le_zpow_iff_right₀ (by norm_num)

/-- A value between the two bounds is a real number that lies in the binade of its exponent. -/
theorem expo_cases (v : EReal) :
    (v < p2 (-126) ∧ expo v = 0) ∨ (p2 120 ≤ v ∧ expo v = 0) ∨
      ∃ r : ℝ, ∃ k : ℤ, v = (r : EReal) ∧ 0 < r ∧ -126 ≤ k ∧ k ≤ 119 ∧ p2 k ≤ v ∧ v < p2 (k + 1)
        ∧ ⌊Real.log r / Real.log 2⌋ = k ∧ expo v = k + 1 := by
  by_cases h₁ : v < p2 (-126)
  · exact .inl ⟨h₁, if_pos (.inl h₁)⟩
  by_cases h₂ : p2 120 ≤ v
  · exact .inr (.inl ⟨h₂, if_pos (.inr h₂)⟩)
  have h₁' := not_lt.mp h₁
  have h₂' := not_le.mp h₂
  induction v with
  | bot => exact absurd h₁' (by simp [p2])
  | top => exact absurd h₂' (by simp [p2])
  | coe r =>
    right; right
    have ha : (2 : ℝ) ^ (-126 : ℤ) ≤ r := by simpa [p2] using EReal.coe_le_coe_iff.mp h₁'
    have hb : r < (2 : ℝ) ^ (120 : ℤ) := by simpa [p2] using EReal.coe_lt_coe_iff.mp h₂'
    have hr : 0 < r := lt_of_lt_of_le (by positivity) ha
    have hl2 : 0 < Real.log 2 := Real.log_pos (by norm_num)
    have lo : (2 : ℝ) ^ ⌊Real.log r / Real.log 2⌋ ≤ r := by
      refine (Real.log_le_log_iff (by positivity) hr).mp ?_
      rw [Real.log_zpow]
      exact (le_div_iff₀ hl2).mp (Int.floor_le _)
    have hi : r < (2 : ℝ) ^ (⌊Real.log r / Real.log 2⌋ + 1) := by
      refine (Real.log_lt_log_iff hr (by positivity)).mp ?_
      rw [Real.log_zpow]
      refine (div_lt_iff₀ hl2).mp ?_
      push_cast
      exact Int.lt_floor_add_one _
    refine ⟨r, ⌊Real.log r / Real.log 2⌋, rfl, hr, ?_, ?_, ?_, ?_, rfl, ?_⟩
    · have := lt_of_le_of_lt ha hi
      rw [zpow_lt_zpow_iff_right₀ (by norm_num)] at this
      omega
    · have := lt_of_le_of_lt lo hb
      rw [zpow_lt_zpow_iff_right₀ (by norm_num)] at this
      omega
    · exact EReal.coe_le_coe_iff.mpr lo
    · exact EReal.coe_lt_coe_iff.mpr hi
    · exact if_neg (by rintro (h | h); exacts [h₁ h, h₂ h])

/-- The exponent's range. -/
theorem expo_bounds (v : EReal) : -125 ≤ expo v ∧ expo v ≤ 120 := by
  rcases expo_cases v with ⟨_, h⟩ | ⟨_, h⟩ | ⟨_, k, _, _, h₁, h₂, _, _, _, h⟩ <;> rw [h] <;> omega

/-! ## The reference's arithmetic -/

/-- The named constant is the logarithm of two. -/
theorem ln2_eq : Named.named (F := Ideal) Cert.ReferenceIdeal.κ "ln2" (φ := .f32) 0x3F317218#32 = ((Real.log 2 : ℝ) : EReal) := rfl

/-- `exp2` at an integer. -/
theorem exp2_int (k : ℤ) : Ideal.exp2 (((k : ℝ)) : EReal) = p2 k := by
  unfold p2
  rw [← Real.rpow_intCast]
  rfl

/-- The bounds the reference compares against. -/
theorem lo_eq : Ideal.ofBits .f32 0x00800000#32 = p2 (-126) := by
  unfold p2; simp [Ideal.ofBits, Ideal.ieee, -EReal.coe_mul]; norm_num

theorem hi_eq : Ideal.ofBits .f32 0x7B800000#32 = p2 120 := by
  unfold p2; simp [Ideal.ofBits, Ideal.ieee, -EReal.coe_mul]
  exact congrArg _ (by norm_num)

/-- The reference's exponent is `expo`. -/
theorem ref_expo (v : EReal) :
    Scalar.select (IntOp.ori (BitVec.ofBool (decide (v < Ideal.ofBits .f32 0x00800000#32)))
        (BitVec.ofBool (decide (Ideal.ofBits .f32 0x7B800000#32 ≤ v)))) (0 : EReal)
      (Ideal.liftRound Int.floor (Ideal.div (Ideal.log v)
        (Named.named (F := Ideal) Cert.ReferenceIdeal.κ "ln2" (φ := .f32) 0x3F317218#32)) + 1) = ((expo v : ℝ) : EReal) := by
  rw [lo_eq, hi_eq, ln2_eq]
  unfold Scalar.select IntOp.ori
  rcases expo_cases v with ⟨h, e⟩ | ⟨h, e⟩ | ⟨r, k, hv, hr, h₁, h₂, hl, hu, hf, e⟩
  · rw [decide_eq_true h, e, if_pos (by cases decide (p2 120 ≤ v) <;> decide)]; simp
  · rw [decide_eq_true h, e, if_pos (by cases decide (v < p2 (-126)) <;> decide)]; simp
  · have n₁ : ¬ v < p2 (-126) := not_lt.mpr (le_trans (p2_le.mpr h₁) hl)
    have n₂ : ¬ p2 120 ≤ v := not_le.mpr (lt_of_lt_of_le hu (p2_le.mpr (by omega)))
    rw [decide_eq_false n₁, decide_eq_false n₂, if_neg (by decide), e, hv]
    have hlog : Ideal.log (r : EReal) = ((Real.log r : ℝ) : EReal) := if_neg (not_le.mpr hr)
    have h2 : Real.log 2 ≠ 0 := (Real.log_pos (by norm_num)).ne'
    have hdiv : Ideal.div ((Real.log r : ℝ) : EReal) ((Real.log 2 : ℝ) : EReal) = ((Real.log r / Real.log 2 : ℝ) : EReal) := by
      unfold Ideal.div
      rw [if_neg (by exact_mod_cast h2), ← EReal.coe_inv, ← EReal.coe_mul]
      rfl
    rw [hlog, hdiv]
    show (((⌊Real.log r / Real.log 2⌋ : ℤ) : ℝ) : EReal) + 1 = _
    rw [hf]
    push_cast
    rfl

/-! ## The kernel's arithmetic -/

/-- The pattern with biased exponent `n` and no fraction denotes 2^(n - 127). -/
theorem pow_word (n : ℕ) (h₁ : 1 ≤ n) (h₂ : n ≤ 254) : Ideal.ofBits .f32 (BitVec.ofNat 32 n <<< 23) = p2 (n - 127) := by
  have key : ∀ n : Fin 255, ((BitVec.ofNat 32 n.val <<< 23).extractLsb' 31 1 == 1#1) = false
      ∧ ((BitVec.ofNat 32 n.val <<< 23).extractLsb' 23 8).toNat = n.val
      ∧ ((BitVec.ofNat 32 n.val <<< 23).extractLsb' 0 23).toNat = 0 := by decide +kernel
  obtain ⟨a, b, c⟩ := key ⟨n, by omega⟩
  simp only at a b c
  show Ideal.ieee 8 23 (BitVec.ofNat 32 n <<< 23) = _
  unfold Ideal.ieee
  simp only [Nat.reduceAdd, a, b, c]
  rw [if_neg (by omega), if_neg (by omega)]
  unfold p2
  refine congrArg Real.toEReal ?_
  have : ((n : ℤ) - 127) = 23 + ((n : ℤ) - (2 ^ (8 - 1) - 1) - (23 : ℕ)) := by norm_num
  rw [this, zpow_add₀ (by norm_num)]
  norm_num

/-- The scale's pattern. -/
theorem scale_word (k : ℤ) (h₁ : -126 ≤ k) (h₂ : k ≤ 127) :
    Ideal.ofBits .f32 (IntOp.shli .vector (IntOp.addi 127#32 (BitVec.ofInt 32 k)) 23#32) = p2 k := by
  obtain ⟨n, hn⟩ : ∃ n : ℕ, k = (n : ℤ) - 127 := ⟨(k + 127).toNat, by omega⟩
  have : IntOp.addi 127#32 (BitVec.ofInt 32 k) = BitVec.ofNat 32 n := by
    unfold IntOp.addi
    rw [hn]
    rw [show (127#32) = BitVec.ofInt 32 127 from rfl, ← BitVec.ofInt_natCast (n := n), ← BitVec.ofInt_add]
    exact congrArg _ (by omega)
  rw [this, show IntOp.shli .vector (BitVec.ofNat 32 n) 23#32 = BitVec.ofNat 32 n <<< 23 from rfl, pow_word n (by omega) (by omega), hn]

/-- The inverse scale's pattern. -/
theorem inv_word (k : ℤ) (h₁ : -127 ≤ k) (h₂ : k ≤ 126) :
    Ideal.ofBits .f32 (IntOp.shli .vector (IntOp.subi 127#32 (BitVec.ofInt 32 k)) 23#32) = p2 (-k) := by
  have : IntOp.subi 127#32 (BitVec.ofInt 32 k) = IntOp.addi 127#32 (BitVec.ofInt 32 (-k)) := by
    unfold IntOp.subi IntOp.addi
    rw [BitVec.ofInt_neg, BitVec.sub_eq_add_neg]
  rw [this, scale_word (-k) (by omega) (by omega)]

/-- The kernel's count: of the 255 lanes from lane one on, how many of the powers of two (held at 2^120 from lane 247
    on) the value reaches. -/
def count (v : EReal) : BitVec 32 :=
  Finset.fold IntOp.addi (0#32)
    (fun x : Fin 256 => Scalar.select
      (IntOp.andi (IntOp.cmpi CmpIPredicate.sge (BitVec.ofNat 32 ↑x) 1#32)
        (BitVec.ofBool (decide (Ideal.ofBits FTy.f32
          (IntOp.shli ArithUnit.vector (IntOp.minsi (247#32) (IntOp.maxsi (1#32) (BitVec.ofNat 32 ↑x))) 23#32) ≤ v))))
      1#32 0#32)
    Finset.univ

/-- The power of two a lane compares against. -/
theorem lane_word (x : Fin 256) :
    Ideal.ofBits .f32 (IntOp.shli .vector (IntOp.minsi (247#32) (IntOp.maxsi (1#32) (BitVec.ofNat 32 ↑x))) 23#32)
      = p2 ((min 247 (max 1 x.val) : ℕ) - 127) := by
  have key : ∀ x : Fin 256, IntOp.minsi (247#32) (IntOp.maxsi (1#32) (BitVec.ofNat 32 ↑x)) = BitVec.ofNat 32 (min 247 (max 1 x.val)) := by
    decide +kernel
  rw [key, show IntOp.shli .vector (BitVec.ofNat 32 (min 247 (max 1 x.val))) 23#32 = BitVec.ofNat 32 (min 247 (max 1 x.val)) <<< 23 from rfl,
    pow_word _ (by omega) (by omega)]

/-- The count, from which lanes the value reaches: those from one to `j`. -/
theorem count_eq (v : EReal) (j : ℕ) (hj : j ≤ 255)
    (h : ∀ x : Fin 256, 1 ≤ x.val → (p2 ((min 247 (max 1 x.val) : ℕ) - 127) ≤ v ↔ x.val ≤ j)) : count v = BitVec.ofNat 32 j := by
  have hf : ∀ x : Fin 256, Scalar.select
      (IntOp.andi (IntOp.cmpi CmpIPredicate.sge (BitVec.ofNat 32 ↑x) 1#32)
        (BitVec.ofBool (decide (Ideal.ofBits FTy.f32
          (IntOp.shli ArithUnit.vector (IntOp.minsi (247#32) (IntOp.maxsi (1#32) (BitVec.ofNat 32 ↑x))) 23#32) ≤ v))))
      1#32 0#32 = BitVec.ofNat 32 (if 1 ≤ x.val ∧ x.val ≤ j then 1 else 0) := by
    intro x
    rw [lane_word]
    have hs : ∀ x : Fin 256, IntOp.cmpi CmpIPredicate.sge (BitVec.ofNat 32 ↑x) 1#32 = BitVec.ofBool (decide (1 ≤ x.val)) := by
      decide +kernel
    rw [hs]
    by_cases h1 : 1 ≤ x.val
    · rw [decide_eq_true h1, decide_eq_decide.mpr (h x h1)]
      by_cases h2 : x.val ≤ j
      · rw [decide_eq_true h2, if_pos ⟨h1, h2⟩]; rfl
      · rw [decide_eq_false h2, if_neg (fun h => h2 h.2)]; rfl
    · rw [decide_eq_false h1, if_neg (fun h => h1 h.1)]
      cases decide (p2 ((min 247 (max 1 x.val) : ℕ) - 127) ≤ v) <;> rfl
  have hs : ∀ (S : Finset (Fin 256)) (g : Fin 256 → ℕ), Finset.fold IntOp.addi (0#32) (fun x => BitVec.ofNat 32 (g x)) S
      = BitVec.ofNat 32 (∑ x ∈ S, g x) := by
    intro S g
    induction S using Finset.induction_on with
    | empty => rfl
    | insert a S ha ih =>
      rw [Finset.fold_insert ha, Finset.sum_insert ha, ih]
      exact (BitVec.ofNat_add _ _).symm
  unfold count
  rw [funext hf, hs]
  refine congrArg (BitVec.ofNat 32) ?_
  have : ∀ j : Fin 256, (∑ x : Fin 256, if 1 ≤ x.val ∧ x.val ≤ j.val then 1 else 0) = j.val := by
    decide +kernel
  exact this ⟨j, by omega⟩

/-- The kernel's exponent is `expo`. -/
theorem ker_expo (v : EReal) :
    Scalar.select (IntOp.ori (IntOp.cmpi CmpIPredicate.eq (count v) 0#32) (IntOp.cmpi CmpIPredicate.eq (count v) 255#32)) (0#32)
      (IntOp.subi (count v) 126#32) = BitVec.ofInt 32 (expo v) := by
  rcases expo_cases v with ⟨h, e⟩ | ⟨h, e⟩ | ⟨r, k, hv, hr, h₁, h₂, hl, hu, hf, e⟩
  · rw [count_eq v 0 (by omega) fun x hx => ⟨fun hp => absurd (lt_of_le_of_lt hp h) (not_lt.mpr (p2_le.mpr (by omega))), fun _ => by omega⟩, e]
    rfl
  · rw [count_eq v 255 le_rfl fun x hx => ⟨fun _ => by omega, fun _ => le_trans (p2_le.mpr (by omega)) h⟩, e]
    rfl
  · obtain ⟨j, hj⟩ : ∃ j : ℕ, k = (j : ℤ) - 127 := ⟨(k + 127).toNat, by omega⟩
    rw [count_eq v j (by omega) fun x hx => ?_, e, hj]
    · have key : ∀ j : Fin 247, 1 ≤ j.val → Scalar.select (IntOp.ori (IntOp.cmpi CmpIPredicate.eq (BitVec.ofNat 32 j.val) 0#32)
          (IntOp.cmpi CmpIPredicate.eq (BitVec.ofNat 32 j.val) 255#32)) (0#32)
          (IntOp.subi (BitVec.ofNat 32 j.val) 126#32) = BitVec.ofInt 32 (((j.val : ℕ) : ℤ) - 127 + 1) := by decide +kernel
      exact key ⟨j, by omega⟩ (by show 1 ≤ j; omega)
    · constructor
      · intro hp
        have := lt_of_le_of_lt hp hu
        have : ¬ p2 (k + 1) ≤ p2 ((min 247 (max 1 x.val) : ℕ) - 127) := not_le.mpr this
        rw [p2_le] at this
        omega
      · intro hx'
        exact le_trans (p2_le.mpr (by omega)) hl

/-- The kernel's scale, from its greatest magnitude over 448. -/
theorem ker_scale (v : EReal) :
    Ideal.ofBits .f32 (IntOp.shli .vector (IntOp.addi 127#32
      (Scalar.select (IntOp.ori (IntOp.cmpi CmpIPredicate.eq (count v) 0#32) (IntOp.cmpi CmpIPredicate.eq (count v) 255#32)) (0#32)
        (IntOp.subi (count v) 126#32))) 23#32) = p2 (expo v) := by
  rw [ker_expo, scale_word _ (by have := expo_bounds v; omega) (by have := expo_bounds v; omega)]

/-- The kernel's inverse scale. -/
theorem ker_inv (v : EReal) :
    Ideal.ofBits .f32 (IntOp.shli .vector (IntOp.subi 127#32
      (Scalar.select (IntOp.ori (IntOp.cmpi CmpIPredicate.eq (count v) 0#32) (IntOp.cmpi CmpIPredicate.eq (count v) 255#32)) (0#32)
        (IntOp.subi (count v) 126#32))) 23#32) = p2 (-expo v) := by
  rw [ker_expo, inv_word _ (by have := expo_bounds v; omega) (by have := expo_bounds v; omega)]

end Cert.Scale
-- ==== Proof.Tiles.lean ====
/-
  The kernel's vector arithmetic against the reference's, at the ideal reading: the scale and its inverse from the lane
  maxima, one tile of h, one tile of the output.
-/
module

public import proofs.«01_k».proof.Proof.Gen.KernelIdeal.Skeleton
public import proofs.«01_k».proof.Proof.Gen.ReferenceIdeal.Skeleton
public import proofs.«01_k».proof.Proof.Scale
public import Idealize.ShloMosaic.Lib.Pointwise

@[expose] public section

set_option maxRecDepth 16384

noncomputable section

namespace Cert.Tiles

open Idealize.ShloMosaic Cert.Scale
open Cert.KernelIdeal (S256x128 S256x1 S256x256 S256x512 S1x256 S1x3072x512 S1x4096x256 S256x3072 S256x4096)
open Cert.ReferenceIdeal (S3072x8192 S1x8192 S4096x3072 S1x3072 S256x8192)

/-- The greatest of a row's magnitudes, over 448. -/
def rowTop {n : ℕ} (f : Fin n → EReal) : EReal := Finset.fold max ⊥ f Finset.univ * Ideal.ofBits .f32 0x3B124925#32

/-- The pattern a maximum starts from. -/
theorem neg_inf : Ideal.ofBits .f32 0xFF800000#32 = ⊥ := by simp [Ideal.ofBits, Ideal.ieee]

/-- The kernel's scale of a row. -/
theorem ker_scale_apply (L : FVec Ideal S256x128 .f32) (r : Fin 256) :
    Cert.KernelIdeal.Gen.k0_pay6 (F := Ideal) L (ix2 r 0) = p2 (expo (rowTop fun l : Fin 128 => L (ix2 r l))) := by
  pointwise [Cert.KernelIdeal.Gen.k0_pay6, Cert.KernelIdeal.Gen.k0_pay5]
  rw [neg_inf]
  exact ker_scale _

/-- The kernel's inverse scale of a row. -/
theorem ker_inv_apply (L : FVec Ideal S256x128 .f32) (r : Fin 256) :
    Cert.KernelIdeal.Gen.k0_pay7 (F := Ideal) L (ix2 r 0) = p2 (-expo (rowTop fun l : Fin 128 => L (ix2 r l))) := by
  pointwise [Cert.KernelIdeal.Gen.k0_pay7, Cert.KernelIdeal.Gen.k0_pay5]
  rw [neg_inf]
  exact ker_inv _

/-- The reference's exponent of a row of x. -/
theorem ref_expo_x (x : FVec Ideal S256x3072 .bf16) (r : Fin 256) :
    Cert.ReferenceIdeal.Gen.k0_pay3 (F := Ideal) x (ix2 r 0)
      = ((expo (rowTop fun k : Fin 3072 => max (x (ix2 r k)) (-x (ix2 r k))) : ℝ) : EReal) := by
  pointwise [Cert.ReferenceIdeal.Gen.k0_pay3, Cert.ReferenceIdeal.Gen.k0_pay2]
  rw [neg_inf]
  exact ref_expo _

/-- The reference's exponent of a row of h. -/
theorem ref_expo_h (a : FVec Ideal S256x3072 .fp8e4m3) (w : Vec Ideal S3072x8192 .fp8e4m3) (z : FVec Ideal S256x8192 .f32)
    (xs : Vec Ideal S256x1 .f32) (s : Vec Ideal S1x8192 .f32) (r : Fin 256) :
    Cert.ReferenceIdeal.Gen.k0_pay8 (F := Ideal) a w z xs s (ix2 r 0)
      = ((expo (rowTop fun k : Fin 4096 => max (Cert.ReferenceIdeal.Gen.k0_pay7 (F := Ideal) a w z xs s (ix2 r k))
          (-Cert.ReferenceIdeal.Gen.k0_pay7 (F := Ideal) a w z xs s (ix2 r k))) : ℝ) : EReal) := by
  unfold Cert.ReferenceIdeal.Gen.k0_pay8
  generalize Cert.ReferenceIdeal.Gen.k0_pay7 (F := Ideal) a w z xs s = h
  pointwise
  rw [neg_inf]
  exact ref_expo _

/-- Two to a whole exponent and to its negative. -/
theorem exp2_neg_int (k : ℤ) : Ideal.exp2 (0 - ((k : ℝ) : EReal)) = p2 (-k) := by
  rw [← exp2_int, zero_sub]
  push_cast
  rfl

end Cert.Tiles
-- ==== Proof.TilesH.lean ====
/-
  The kernel's tiles against the reference's whole matrices, at the ideal reading: the lane maxima of x and of h, a tile of
  h, a tile of the output, and the codes and scales that follow.
-/
module

public import proofs.«01_k».proof.Proof.Tiles

@[expose] public section

set_option maxRecDepth 16384

noncomputable section

namespace Cert.Tiles

open Idealize.ShloMosaic Cert.Scale
open Cert.KernelIdeal (S256x128 S256x1 S256x256 S256x512 S1x256 S1x3072x512 S1x4096x256 S256x3072 S256x4096)
open Cert.ReferenceIdeal (S3072x8192 S1x8192 S4096x3072 S1x3072 S256x8192)

/-- A greatest element is at most a bound exactly when every element is. -/
theorem fold_le {n : ℕ} (f : Fin n → EReal) (a : EReal) : Finset.fold max ⊥ f Finset.univ ≤ a ↔ ∀ i, f i ≤ a := by
  rw [Finset.fold_max_le]
  simp

/-- Two families with the same upper bounds have the same top. -/
theorem rowTop_congr {n k : ℕ} (f : Fin n → EReal) (g : Fin k → EReal) (h : ∀ a, (∀ i, f i ≤ a) ↔ ∀ i, g i ≤ a) :
    rowTop f = rowTop g := by
  unfold rowTop
  refine congrArg (· * _) (eq_of_forall_ge_iff fun a => ?_)
  rw [fold_le, fold_le, h]

/-- The magnitude of a value. -/
def mag (v : EReal) : EReal := max v (-v)

/-- A magnitude is not negative. -/
theorem mag_nonneg (v : EReal) : 0 ≤ mag v := by
  unfold mag
  rcases le_total 0 v with h | h
  · exact le_max_of_le_left h
  · exact le_max_of_le_right (by simpa using EReal.neg_le_neg_iff.2 h)

/-- The lane maxima of x, bounded. -/
theorem xlanes_le (x : FVec Ideal S256x3072 .bf16) (r : Fin 256) (l : Fin 128) (a : EReal) :
    Cert.KernelIdeal.Gen.k0_pay4 (F := Ideal) (Cert.KernelIdeal.Gen.k0_pay1 (F := Ideal) x) (Cert.KernelIdeal.Gen.k0_pay2 (F := Ideal) x)
        (Cert.KernelIdeal.Gen.k0_pay3 (F := Ideal) x) (ix2 r l) ≤ a
      ↔ ∀ i : Fin 24, mag (x (ix2 r ⟨128 * i + l, by omega⟩)) ≤ a := by
  pointwise [Cert.KernelIdeal.Gen.k0_pay4, Cert.KernelIdeal.Gen.k0_pay1, Cert.KernelIdeal.Gen.k0_pay2, Cert.KernelIdeal.Gen.k0_pay3]
  simp only [max_le_iff, and_assoc]
  have e0 : (⟨128 * ((0 : Fin 24) : ℕ) + l, by omega⟩ : Fin 3072) = ⟨l, by omega⟩ := Fin.ext (by simp)
  constructor
  · rintro ⟨h0, h1, h2, h3, h4, h5, h6, h7, h8, h9, h10, h11, h12, h13, h14, h15, h16, h17, h18, h19, h20, h21, h22, h23⟩ ⟨i, hi⟩
    interval_cases i
    · exact (congrArg (fun k => mag (x (ix2 r k)) ≤ a) e0).mpr h0
    exacts [h1, h2, h3, h4, h5, h6, h7, h8, h9, h10, h11, h12, h13, h14, h15, h16, h17, h18, h19, h20, h21, h22, h23]
  · intro h
    exact ⟨(congrArg (fun k => mag (x (ix2 r k)) ≤ a) e0).mp (h 0), h 1, h 2, h 3, h 4, h 5, h 6, h 7, h 8, h 9, h 10, h 11, h 12, h 13, h 14, h 15, h 16, h 17, h 18, h 19, h 20, h 21, h 22, h 23⟩

/-- A tile of h. -/
theorem tile_h (xs : Vec Ideal S256x1 .f32) (xc : Vec Ideal S256x3072 .fp8e4m3) (w : Vec Ideal S1x3072x512 .fp8e4m3)
    (lo hi : Vec Ideal S1x256 .f32) (W : Vec Ideal S3072x8192 .fp8e4m3) (s : Vec Ideal S1x8192 .f32) (j : ℕ) (hj : j < 16)
    (hg : ∀ (k : Fin 3072) (q : Fin 256), w (ix3 0 k ⟨q, by omega⟩) = W (ix2 k ⟨256 * j + q, by omega⟩))
    (hu : ∀ (k : Fin 3072) (q : Fin 256), w (ix3 0 k ⟨256 + q, by omega⟩) = W (ix2 k ⟨4096 + 256 * j + q, by omega⟩))
    (hlo : ∀ q : Fin 256, lo (ix2 0 q) = s (ix2 0 ⟨256 * j + q, by omega⟩))
    (hhi : ∀ q : Fin 256, hi (ix2 0 q) = s (ix2 0 ⟨4096 + 256 * j + q, by omega⟩)) (r q : Fin 256) :
    Cert.KernelIdeal.Gen.k0_pay16 (F := Ideal) xs xc w lo hi (ix2 r q)
      = Cert.ReferenceIdeal.Gen.k0_pay7 (F := Ideal) xc W (constant S256x8192 .f32 0x00000000#32) xs s
          (ix2 r ⟨256 * j + q, by omega⟩) := by
  pointwise [Cert.KernelIdeal.Gen.k0_pay16, Cert.ReferenceIdeal.Gen.k0_pay7]
  simp only [hg, hu, hlo, hhi, Nat.add_assoc]

/-- A tile of the output. -/
theorem tile_o (hs : FVec Ideal S256x1 .f32) (hc : Vec Ideal S256x4096 .fp8e4m3) (w : Vec Ideal S1x4096x256 .fp8e4m3)
    (t : Vec Ideal S1x256 .f32) (W : Vec Ideal S4096x3072 .fp8e4m3) (s : Vec Ideal S1x3072 .f32) (j : ℕ) (hj : j < 12)
    (hw : ∀ (k : Fin 4096) (q : Fin 256), w (ix3 0 k q) = W (ix2 k ⟨256 * j + q, by omega⟩))
    (ht : ∀ q : Fin 256, t (ix2 0 q) = s (ix2 0 ⟨256 * j + q, by omega⟩)) (r q : Fin 256) :
    Cert.KernelIdeal.Gen.k0_pay82 (F := Ideal) hs hc w t (ix2 r q)
      = Cert.ReferenceIdeal.Gen.k0_pay1 (F := Ideal) hc W hs s (ix2 r ⟨256 * j + q, by omega⟩) := by
  pointwise [Cert.KernelIdeal.Gen.k0_pay82, Cert.ReferenceIdeal.Gen.k0_pay1]
  simp only [hw, ht]

/-- One more tile into the lane maxima, bounded. -/
theorem hlanes_le (xs : Vec Ideal S256x1 .f32) (m : FVec Ideal S256x128 .f32) (xc : Vec Ideal S256x3072 .fp8e4m3)
    (w : Vec Ideal S1x3072x512 .fp8e4m3) (lo hi : Vec Ideal S1x256 .f32) (r : Fin 256) (l : Fin 128) (a : EReal) :
    Cert.KernelIdeal.Gen.k0_pay18 (F := Ideal) xs m xc w lo hi (ix2 r l) ≤ a
      ↔ m (ix2 r l) ≤ a ∧ mag (Cert.KernelIdeal.Gen.k0_pay16 (F := Ideal) xs xc w lo hi (ix2 r ⟨l, by omega⟩)) ≤ a
        ∧ mag (Cert.KernelIdeal.Gen.k0_pay16 (F := Ideal) xs xc w lo hi (ix2 r ⟨128 + l, by omega⟩)) ≤ a := by
  unfold Cert.KernelIdeal.Gen.k0_pay18
  generalize Cert.KernelIdeal.Gen.k0_pay16 (F := Ideal) xs xc w lo hi = h
  pointwise
  simp only [max_le_iff]
  exact Iff.rfl

/-- The kernel's lane maxima of x. -/
def xlanes (x : FVec Ideal S256x3072 .bf16) : FVec Ideal S256x128 .f32 :=
  Cert.KernelIdeal.Gen.k0_pay4 (F := Ideal) (Cert.KernelIdeal.Gen.k0_pay1 (F := Ideal) x) (Cert.KernelIdeal.Gen.k0_pay2 (F := Ideal) x)
    (Cert.KernelIdeal.Gen.k0_pay3 (F := Ideal) x)

/-- The lanes of x have the row's top. -/
theorem xlanes_top (x : FVec Ideal S256x3072 .bf16) (r : Fin 256) :
    rowTop (fun l : Fin 128 => xlanes x (ix2 r l)) = rowTop fun k : Fin 3072 => max (x (ix2 r k)) (-x (ix2 r k)) := by
  refine rowTop_congr _ _ fun a => ⟨fun h k => ?_, fun h l => (xlanes_le x r l a).2 fun i => h _⟩
  have e := (xlanes_le x r ⟨k.1 % 128, by omega⟩ a).1 (h _) ⟨k.1 / 128, by omega⟩
  have ek : (⟨128 * (k.1 / 128) + k.1 % 128, by omega⟩ : Fin 3072) = k := Fin.ext (by show 128 * (k.1 / 128) + k.1 % 128 = k.1; omega)
  rw [← ek]
  exact e

/-- The kernel's scale of x is the reference's. -/
theorem x_scale (x : FVec Ideal S256x3072 .bf16) :
    Cert.KernelIdeal.Gen.k0_pay6 (F := Ideal) (xlanes x) = Cert.ReferenceIdeal.Gen.k0_pay5 (F := Ideal) x := by
  funext i
  obtain ⟨r, rfl⟩ : ∃ r : Fin 256, i = ix2 r 0 := ⟨i 0, (eq_ix2 i).trans (congrArg (ix2 (i 0)) (Subsingleton.elim (α := Fin 1) _ _))⟩
  rw [ker_scale_apply, xlanes_top]
  show _ = Ideal.exp2 (Cert.ReferenceIdeal.Gen.k0_pay3 (F := Ideal) x (ix2 r 0))
  rw [ref_expo_x, exp2_int]

/-- The kernel's codes of x are the reference's. -/
theorem x_codes (x : FVec Ideal S256x3072 .bf16) :
    Cert.KernelIdeal.Gen.k0_pay9 (F := Ideal) (Cert.KernelIdeal.Gen.k0_pay1 (F := Ideal) x) (Cert.KernelIdeal.Gen.k0_pay7 (F := Ideal) (xlanes x))
      = Cert.ReferenceIdeal.Gen.k0_pay4 (F := Ideal) x := by
  have hi : ∀ r : Fin 256, Cert.KernelIdeal.Gen.k0_pay7 (F := Ideal) (xlanes x) (ix2 r 0)
      = Ideal.exp2 (0 - Cert.ReferenceIdeal.Gen.k0_pay3 (F := Ideal) x (ix2 r 0)) := fun r => by
    rw [ker_inv_apply, xlanes_top, ref_expo_x, exp2_neg_int]
  funext i
  obtain ⟨r, k, rfl⟩ : ∃ (r : Fin 256) (k : Fin 3072), i = ix2 r k := ⟨i 0, i 1, eq_ix2 i⟩
  unfold Cert.ReferenceIdeal.Gen.k0_pay4
  revert hi
  generalize Cert.KernelIdeal.Gen.k0_pay7 (F := Ideal) (xlanes x) = v
  generalize Cert.ReferenceIdeal.Gen.k0_pay3 (F := Ideal) x = u
  intro hi
  pointwise [Cert.KernelIdeal.Gen.k0_pay9, Cert.KernelIdeal.Gen.k0_pay1, Cert.ReferenceIdeal.Gen.k0_pay2]
  rw [hi]
  rfl

/-- The lanes hold the maxima of the first `n` tiles of a matrix: the same bounds, none below zero. -/
def Lanes (H : FVec Ideal S256x4096 .f32) (n : ℕ) (m : FVec Ideal S256x128 .f32) : Prop :=
  ∀ (r : Fin 256) (a : EReal), (∀ l : Fin 128, m (ix2 r l) ≤ a) ↔ 0 ≤ a ∧ ∀ c : Fin 4096, c.1 < 256 * n → mag (H (ix2 r c)) ≤ a

/-- Before the first tile the lanes are zero. -/
theorem lanes_zero (H : FVec Ideal S256x4096 .f32) : Lanes H 0 (Cert.KernelIdeal.Gen.k0_pay10 (F := Ideal)) := by
  intro r a
  have e : ∀ l : Fin 128, Cert.KernelIdeal.Gen.k0_pay10 (F := Ideal) (ix2 r l) = 0 := fun l => by
    pointwise [Cert.KernelIdeal.Gen.k0_pay10]
  simp only [e]
  exact ⟨fun h => ⟨h 0, fun c hc => absurd hc (by omega)⟩, fun h _ => h.1⟩

/-- One more tile into the lanes. -/
theorem lanes_step {H : FVec Ideal S256x4096 .f32} {n : ℕ} {m : FVec Ideal S256x128 .f32} (hm : Lanes H n m) (hn : n < 16)
    (xs : Vec Ideal S256x1 .f32) (xc : Vec Ideal S256x3072 .fp8e4m3) (w : Vec Ideal S1x3072x512 .fp8e4m3) (lo hi : Vec Ideal S1x256 .f32)
    (ht : ∀ r q : Fin 256, Cert.KernelIdeal.Gen.k0_pay16 (F := Ideal) xs xc w lo hi (ix2 r q) = H (ix2 r ⟨256 * n + q, by omega⟩)) :
    Lanes H (n + 1) (Cert.KernelIdeal.Gen.k0_pay18 (F := Ideal) xs m xc w lo hi) := by
  intro r a
  have key : (∀ l : Fin 128, Cert.KernelIdeal.Gen.k0_pay18 (F := Ideal) xs m xc w lo hi (ix2 r l) ≤ a)
      ↔ (∀ l : Fin 128, m (ix2 r l) ≤ a) ∧ ∀ q : Fin 256, mag (H (ix2 r ⟨256 * n + q, by omega⟩)) ≤ a := by
    refine ⟨fun h => ⟨fun l => ((hlanes_le xs m xc w lo hi r l a).1 (h l)).1, fun q => ?_⟩, fun h l => ?_⟩
    · by_cases hq : q.1 < 128
      · have e := ((hlanes_le xs m xc w lo hi r ⟨q.1, hq⟩ a).1 (h _)).2.1
        rw [ht] at e
        exact e
      · have e := ((hlanes_le xs m xc w lo hi r ⟨q.1 - 128, by omega⟩ a).1 (h _)).2.2
        rw [ht] at e
        have eq : (⟨256 * n + (128 + (q.1 - 128)), by omega⟩ : Fin 4096) = ⟨256 * n + q.1, by omega⟩ := Fin.ext (by
          show 256 * n + (128 + (q.1 - 128)) = 256 * n + q.1; omega)
        rw [← eq]
        exact e
    · refine (hlanes_le xs m xc w lo hi r l a).2 ⟨h.1 l, ?_, ?_⟩
      · rw [ht]; exact h.2 _
      · rw [ht]; exact h.2 _
  rw [key, hm r a]
  constructor
  · rintro ⟨⟨h0, h1⟩, h2⟩
    refine ⟨h0, fun c hc => ?_⟩
    by_cases hc' : c.1 < 256 * n
    · exact h1 c hc'
    · have e := h2 ⟨c.1 - 256 * n, by omega⟩
      have ec : (⟨256 * n + (c.1 - 256 * n), by omega⟩ : Fin 4096) = c := Fin.ext (by show 256 * n + (c.1 - 256 * n) = c.1; omega)
      rw [← ec]
      exact e
  · rintro ⟨h0, h1⟩
    exact ⟨⟨h0, fun c hc => h1 c (by omega)⟩, fun q => h1 _ (by show 256 * n + q.1 < 256 * (n + 1); omega)⟩

/-- After the last tile the lanes have the row's top. -/
theorem lanes_top {H : FVec Ideal S256x4096 .f32} {m : FVec Ideal S256x128 .f32} (hm : Lanes H 16 m) (r : Fin 256) :
    rowTop (fun l : Fin 128 => m (ix2 r l)) = rowTop fun k : Fin 4096 => max (H (ix2 r k)) (-H (ix2 r k)) := by
  refine rowTop_congr _ _ fun a => ?_
  rw [hm r a]
  exact ⟨fun h k => h.2 k (by omega), fun h => ⟨(mag_nonneg _).trans (h 0), fun c _ => h c⟩⟩

/-- The kernel's codes of h, from the lane maxima and h. -/
def hCodes (m : FVec Ideal S256x128 .f32) (h : FVec Ideal S256x4096 .f32) : FVec Ideal S256x4096 .fp8e4m3 :=
  shapeCast S256x4096 (truncf .fp8e4m3 (minimumf (broadcast S256x4096 (Scalar.ofBits .f32 0x43E00000#32 : Ideal .f32))
    (maximumf (broadcast S256x4096 (Scalar.ofBits .f32 0xC3E00000#32 : Ideal .f32))
      (mulf h (broadcastTo S256x4096 (Cert.KernelIdeal.Gen.k0_pay7 (F := Ideal) m) Cert.KernelIdeal.Gen.broadcasts_S256x1_S256x4096))))
    Cert.KernelIdeal.Gen.bitsLt_fp8e4m3_f32) Cert.KernelIdeal.Gen.shapeCasts_S256x4096_S256x4096

section
variable (a : FVec Ideal S256x3072 .fp8e4m3) (w : Vec Ideal S3072x8192 .fp8e4m3) (z : FVec Ideal S256x8192 .f32)
  (xs : Vec Ideal S256x1 .f32) (s : Vec Ideal S1x8192 .f32) (m : FVec Ideal S256x128 .f32)

/-- The kernel's scale of h is the reference's. -/
theorem h_scale (hm : Lanes (Cert.ReferenceIdeal.Gen.k0_pay7 (F := Ideal) a w z xs s) 16 m) :
    Cert.KernelIdeal.Gen.k0_pay6 (F := Ideal) m = Cert.ReferenceIdeal.Gen.k0_pay10 (F := Ideal) a w z xs s := by
  funext i
  obtain ⟨r, rfl⟩ : ∃ r : Fin 256, i = ix2 r 0 := ⟨i 0, (eq_ix2 i).trans (congrArg (ix2 (i 0)) (Subsingleton.elim (α := Fin 1) _ _))⟩
  rw [ker_scale_apply, lanes_top hm]
  show _ = Ideal.exp2 (Cert.ReferenceIdeal.Gen.k0_pay8 (F := Ideal) a w z xs s (ix2 r 0))
  rw [ref_expo_h, exp2_int]

/-- The kernel's codes of h are the reference's. -/
theorem h_codes (hm : Lanes (Cert.ReferenceIdeal.Gen.k0_pay7 (F := Ideal) a w z xs s) 16 m) :
    hCodes m (Cert.ReferenceIdeal.Gen.k0_pay7 (F := Ideal) a w z xs s) = Cert.ReferenceIdeal.Gen.k0_pay9 (F := Ideal) a w z xs s := by
  have hi : ∀ r : Fin 256, Cert.KernelIdeal.Gen.k0_pay7 (F := Ideal) m (ix2 r 0)
      = Ideal.exp2 (0 - Cert.ReferenceIdeal.Gen.k0_pay8 (F := Ideal) a w z xs s (ix2 r 0)) := fun r => by
    rw [ker_inv_apply, lanes_top hm, ref_expo_h, exp2_neg_int]
  funext i
  obtain ⟨r, k, rfl⟩ : ∃ (r : Fin 256) (k : Fin 4096), i = ix2 r k := ⟨i 0, i 1, eq_ix2 i⟩
  unfold Cert.ReferenceIdeal.Gen.k0_pay9 hCodes
  revert hi
  generalize Cert.KernelIdeal.Gen.k0_pay7 (F := Ideal) m = v
  generalize Cert.ReferenceIdeal.Gen.k0_pay8 (F := Ideal) a w z xs s = u
  generalize Cert.ReferenceIdeal.Gen.k0_pay7 (F := Ideal) a w z xs s = h
  intro hi
  pointwise
  rw [hi]
  rfl

end

end Cert.Tiles
-- ==== Proof.Closed.lean ====
/-
  The body's run at the ideal reading, in closed form: its five results are the reference's five expressions of the five
  operands. The sixteen tiles of h fill h from the left, the lanes of maxima go with them, and the twelve tiles of the
  output fill the output.
-/
module

public import proofs.«01_k».proof.Proof.KernelIdealBody
import all proofs.«01_k».proof.Proof.KernelIdealBody
public import proofs.«01_k».proof.Proof.Loads
public import proofs.«01_k».proof.Proof.Filled
public import proofs.«01_k».proof.Proof.TilesH

@[expose] public section

set_option maxRecDepth 16384

noncomputable section

namespace Cert.KernelIdeal.Hand

open Cert.KernelIdeal Cert.KernelIdeal.Gen Cert.KernelIdeal.Slots Cert.Filled Cert.Tiles
open Idealize.ShloMosaic

/-- A step of h: its tile fills 256 more columns, and its lane maxima go into the lanes. -/
theorem h_step {W : S3072x8192.Idx → Elt Ideal .fp8e4m3} {s : S1x8192.Idx → Elt Ideal .f32} {xs : Vec Ideal S256x1 .f32}
    {xc : Vec Ideal S256x3072 .fp8e4m3} {n c0 : ℕ} {L : List (View.Piece (Elt Ideal) S256x4096 .f32)} {m m' : FVec Ideal S256x128 .f32}
    (h : Filled (N := 4096) (Cert.ReferenceIdeal.Gen.k0_pay7 (F := Ideal) xc W (constant Cert.ReferenceIdeal.S256x8192 .f32 0x00000000#32) xs s) n L
      ∧ Lanes (Cert.ReferenceIdeal.Gen.k0_pay7 (F := Ideal) xc W (constant Cert.ReferenceIdeal.S256x8192 .f32 0x00000000#32) xs s) n m)
    (hn : n < 16) (hc : c0 = 256 * n) {inb} {v : Vec Ideal S1x3072x512 .fp8e4m3} {lo hi : Vec Ideal S1x256 .f32} (hv : Slot1 (F := Ideal) W n v)
    (hlo : ∀ q : Fin 256, lo (ix2 0 q) = s (ix2 0 (⟨256 * n + q.1, by omega⟩ : Fin 8192)))
    (hhi : ∀ q : Fin 256, hi (ix2 0 q) = s (ix2 0 (⟨4096 + 256 * n + q.1, by omega⟩ : Fin 8192)))
    {T : S256x256.Idx → Elt Ideal .f32} (hT : T = k0_pay17 (F := Ideal) xs xc v lo hi) (hm : m' = k0_pay18 (F := Ideal) xs m xc v lo hi) :
    Filled (N := 4096) (Cert.ReferenceIdeal.Gen.k0_pay7 (F := Ideal) xc W (constant Cert.ReferenceIdeal.S256x8192 .f32 0x00000000#32) xs s) (n + 1)
        (⟨Rect.unit (s := S256x4096) ![0, c0] S256x256.size inb, T⟩ :: L)
      ∧ Lanes (Cert.ReferenceIdeal.Gen.k0_pay7 (F := Ideal) xc W (constant Cert.ReferenceIdeal.S256x8192 .f32 0x00000000#32) xs s) (n + 1) m' := by
  have ht := tile_h xs xc v lo hi W s n hn
    (fun k q => (hv hn k ⟨q.1, by omega⟩).trans (congrArg (fun z => W (ix2 k z)) (Fin.ext (by
      show (col ⟨n, hn⟩ ⟨q.1, by omega⟩).1 = 256 * n + q.1
      unfold col
      exact if_pos q.2))))
    (fun k q => (hv hn k ⟨256 + q.1, by omega⟩).trans (congrArg (fun z => W (ix2 k z)) (Fin.ext (by
      show (col ⟨n, hn⟩ ⟨256 + q.1, by omega⟩).1 = 4096 + 256 * n + q.1
      unfold col
      refine (if_neg (show ¬ 256 + q.1 < 256 by omega)).trans ?_
      show 3840 + 256 * n + (256 + q.1) = 4096 + 256 * n + q.1
      omega))))
    hlo hhi
  subst hT hm
  refine ⟨filled_step (N := 4096) h.1 hc (by omega) fun r q => ?_, lanes_step h.2 hn xs xc v lo hi ht⟩
  refine Eq.trans ?_ (ht r q)
  show shapeCast S256x256 (k0_pay16 (F := Ideal) xs xc v lo hi) shapeCasts_S256x256_S256x256 (ix2 r q) = _
  rw [shapeCast_self]

/-- A step of the output: its tile fills 256 more columns. -/
theorem o_step {W : S4096x3072.Idx → Elt Ideal .fp8e4m3} {s : S1x3072.Idx → Elt Ideal .f32} {hs : FVec Ideal S256x1 .f32}
    {hc : Vec Ideal S256x4096 .fp8e4m3} {n c0 : ℕ} {L : List (View.Piece (Elt Ideal) S256x3072 .bf16)}
    (h : Filled (N := 3072) (Cert.ReferenceIdeal.Gen.k0_pay1 (F := Ideal) hc W hs s) n L)
    (hn : n < 12) (hc0 : c0 = 256 * n) {inb} {v : Vec Ideal S1x4096x256 .fp8e4m3} {t : Vec Ideal S1x256 .f32} (hv : Slot2 (F := Ideal) W n v)
    (ht : ∀ q : Fin 256, t (ix2 0 q) = s (ix2 0 (⟨256 * n + q.1, by omega⟩ : Fin 3072)))
    {T : S256x256.Idx → Elt Ideal .bf16} (hT : T = k0_pay82 (F := Ideal) hs hc v t) :
    Filled (N := 3072) (Cert.ReferenceIdeal.Gen.k0_pay1 (F := Ideal) hc W hs s) (n + 1)
        (⟨Rect.unit (s := S256x3072) ![0, c0] S256x256.size inb, T⟩ :: L) := by
  subst hT
  exact filled_step (N := 3072) h hc0 (by omega) fun r q => tile_o hs hc v t W s n hn (fun k q => hv hn k q) ht r q

/-- A run of columns copied out of a filled buffer. -/
theorem out_piece {G : S256x3072.Idx → Elt Ideal .bf16} {n c0 : ℕ} {L : List (View.Piece (Elt Ideal) S256x3072 .bf16)} (hF : Filled (N := 3072) G (n + 1) L)
    (hn : n < 12) (hc : c0 = 256 * n) (inb) (hp) (f : S256x3072.Idx → Elt Ideal .bf16) (r q : Fin 256) :
    ReadAs.same.apply (View.read (Elt Ideal) (sc10.slice (Rect.unit (s := S256x3072) ![0, c0] S256x256.size inb) hp).view (sc10.view.writes (Elt Ideal) f L)) (ix2 r q)
      = G (ix2 r (⟨256 * n + q.1, by omega⟩ : Fin 3072)) := by
  have e : (Rect.unit (s := S256x3072) ![0, c0] S256x256.size inb).emb (ix2 r q) = (ix2 r (⟨256 * n + q.1, by omega⟩ : Fin 3072) : S256x3072.Idx) := by
    funext a
    refine Fin.ext ?_
    rw [Rect.emb_apply]
    fin_cases a
    · show 0 + 1 * r.1 = r.1
      omega
    · show c0 + 1 * q.1 = 256 * n + q.1
      omega
  refine Eq.trans ?_ (filled_read (N := 3072) hF sc10.view f r ⟨256 * n + q.1, by omega⟩ (by show 256 * n + q.1 < 256 * (n + 1); omega))
  rw [← e]
  rfl

/-- One more run of columns copied out. -/
theorem out_step {G : S256x3072.Idx → Elt Ideal .bf16} {n : ℕ} {L P : List (View.Piece (Elt Ideal) S256x3072 .bf16)}
    (h : Filled (Val := Elt Ideal) (e := .bf16) (N := 3072) G n P) (hF : Filled (Val := Elt Ideal) (e := .bf16) (N := 3072) G (n + 1) L) (hn : n < 12) (c0 : ℕ) (hc : c0 = 256 * n)
    (inb) (hp) (f : S256x3072.Idx → Elt Ideal .bf16) (T : S256x256.Idx → Elt Ideal .bf16)
    (hT : T = ReadAs.same.apply (View.read (Elt Ideal) (sc10.slice (Rect.unit (s := S256x3072) ![0, c0] S256x256.size inb) hp).view (sc10.view.writes (Elt Ideal) f L))) :
    Filled (Val := Elt Ideal) (e := .bf16) (N := 3072) G (n + 1) (⟨Rect.unit (s := S256x3072) ![0, c0] S256x256.size inb, T⟩ :: P) := by
  subst hT
  exact filled_step (N := 3072) h hc (by omega) (fun r q => out_piece hF hn hc inb hp f r q)

section
variable (c : Dev nD) (fh0 : HbBuf (F := Ideal) c hb0) (fh1 : HbBuf (F := Ideal) c hb1) (fh2 : HbBuf (F := Ideal) c hb2) (fh3 : HbBuf (F := Ideal) c hb3)
  (fh4 : HbBuf (F := Ideal) c hb4) (fs0 : HbBuf (F := Ideal) c sc0) (fs1 : HbBuf (F := Ideal) c sc1) (fs2 : HbBuf (F := Ideal) c sc2)
  (fs3 : HbBuf (F := Ideal) c sc3) (fs4 : HbBuf (F := Ideal) c sc4)

/-- A load of the gate/up scales' scratch buffer. -/
def sl1 (c0 : ℕ) (h1 : ∀ a, (![0, c0] : Fin 2 → ℕ) a + S1x256.size a ≤ S1x8192.size a) : Vec Ideal S1x256 .f32 :=
  View.readAt (Elt Ideal) sc1.view (Rect.unit (s := S1x8192) ![0, c0] S1x256.size h1).toLoadRect
    (View.write (Elt Ideal) sc1.view fs1 (bodyRun.sl.dma0_1 c fh2) Finset.univ)

/-- Such a load is a run of the scales. -/
theorem sl1_at (n c0 : ℕ) (h1) (hc : c0 = n) (hb : n + 256 ≤ 8192) (q : Fin 256) :
    sl1 c fh2 fs1 c0 h1 (ix2 0 q) = (fh2 : S1x8192.Idx → Elt Ideal .f32) (ix2 0 (⟨n + q.1, by omega⟩ : Fin 8192)) := by
  subst hc
  exact s1_load (F := Ideal) fs1 fh2 c0 h1 hb q

/-- A load of the down scales' scratch buffer. -/
def sl2 (c0 : ℕ) (h1 : ∀ a, (![0, c0] : Fin 2 → ℕ) a + S1x256.size a ≤ S1x3072.size a) : Vec Ideal S1x256 .f32 :=
  View.readAt (Elt Ideal) sc2.view (Rect.unit (s := S1x3072) ![0, c0] S1x256.size h1).toLoadRect
    (View.write (Elt Ideal) sc2.view fs2 (bodyRun.sl.dma0_2 c fh4) Finset.univ)

/-- Such a load is a run of the scales. -/
theorem sl2_at (n c0 : ℕ) (h1) (hc : c0 = n) (hb : n + 256 ≤ 3072) (q : Fin 256) :
    sl2 c fh4 fs2 c0 h1 (ix2 0 q) = (fh4 : S1x3072.Idx → Elt Ideal .f32) (ix2 0 (⟨n + q.1, by omega⟩ : Fin 3072)) := by
  subst hc
  exact s2_load (F := Ideal) fs2 fh4 c0 h1 hb q

/-- The lane maxima of x the run holds. -/
theorem lanes_x : bodyRun.sl.r_3 c fh0 fs0 = xlanes fh0 := by
  have hx := load_x (F := Ideal) c fh0 fs0 inb_S256x3072_S256x3072_0_0
  unfold bodyRun.sl.r_3 bodyRun.sl.r bodyRun.sl.r_1 bodyRun.sl.r_2 xlanes
  rw [hx]

/-- The scale of x the run holds. -/
theorem scale_x : bodyRun.sl.r_4 c fh0 fs0 = Cert.ReferenceIdeal.Gen.k0_pay5 (F := Ideal) fh0 := by
  unfold bodyRun.sl.r_4
  rw [lanes_x, x_scale]

/-- The codes of x the run stores. -/
theorem stored_x : k0_pay9 (F := Ideal) (bodyRun.sl.r c fh0 fs0) (bodyRun.sl.r_5 c fh0 fs0) = Cert.ReferenceIdeal.Gen.k0_pay4 (F := Ideal) fh0 := by
  have hx := load_x (F := Ideal) c fh0 fs0 inb_S256x3072_S256x3072_0_0
  unfold bodyRun.sl.r_5 bodyRun.sl.r
  rw [lanes_x, hx, x_codes]

/-- The codes of x the run loads back. -/
theorem codes_x : bodyRun.sl.v370 c fh0 fs0 = Cert.ReferenceIdeal.Gen.k0_pay4 (F := Ideal) fh0 := by
  unfold bodyRun.sl.v370 bodyRun.sl.HS5_1
  rw [stored_x]
  exact View.readCov_unit_lit sc5.view _ _ (fun a => by fin_cases a <;> rfl)

/-- h, by the reference, of the operands. -/
def hRef : FVec Ideal S256x4096 .f32 :=
  Cert.ReferenceIdeal.Gen.k0_pay7 (F := Ideal) (bodyRun.sl.v370 c fh0 fs0) fh1 (constant Cert.ReferenceIdeal.S256x8192 .f32 0x00000000#32) (bodyRun.sl.r_4 c fh0 fs0) fh2

/-- The lane maxima after the last tile. -/
def lanes16 : FVec Ideal S256x128 .f32 :=
  k0_pay18 (F := Ideal) (bodyRun.sl.r_4 c fh0 fs0) (bodyRun.sl.r_36 c fh0 fh1 fh2 fs0 fs1 fs3) (bodyRun.sl.v370 c fh0 fs0) (bodyRun.sl.v945 c fh1 fs3)
    (sl1 c fh2 fs1 3840 inb_S1x8192_S1x256_0_3840) (sl1 c fh2 fs1 7936 inb_S1x8192_S1x256_0_7936)

/-- After the sixteenth tile h is filled and the lanes hold its maxima. -/
theorem h_filled : Filled (Val := Elt Ideal) (e := .f32) (N := 4096) (hRef c fh0 fh1 fh2 fs0) 16 (bodyRun.sl.HS7_16 c fh0 fh1 fh2 fs0 fs1 fs3) ∧ Lanes (hRef c fh0 fh1 fh2 fs0) 16 (lanes16 c fh0 fh1 fh2 fs0 fs1 fs3) := by
  obtain ⟨w0, w1, w2, w3, w4, w5, w6, w7, w8, w9, w10, w11, w12, w13, w14, w15⟩ := slots1 (F := Ideal) c fh1 fs3
  have s0 : Filled (Val := Elt Ideal) (e := .f32) (N := 4096) (hRef c fh0 fh1 fh2 fs0) 0 [] ∧ Lanes (hRef c fh0 fh1 fh2 fs0) 0 (k0_pay10 (F := Ideal)) := ⟨filled_zero _, lanes_zero _⟩
  have s1 : Filled (Val := Elt Ideal) (e := .f32) (N := 4096) (hRef c fh0 fh1 fh2 fs0) 1 (bodyRun.sl.HS7_1 c fh0 fh1 fh2 fs0 fs1 fs3) ∧ Lanes (hRef c fh0 fh1 fh2 fs0) 1 (bodyRun.sl.r_9 c fh0 fh1 fh2 fs0 fs1 fs3) :=
    h_step (lo := sl1 c fh2 fs1 0 inb_S1x8192_S1x256_0_0) (hi := sl1 c fh2 fs1 4096 inb_S1x8192_S1x256_0_4096) s0 (by decide) rfl w0 (sl1_at c fh2 fs1 _ _ _ rfl (by decide)) (sl1_at c fh2 fs1 _ _ _ rfl (by decide)) rfl rfl
  have s2 : Filled (Val := Elt Ideal) (e := .f32) (N := 4096) (hRef c fh0 fh1 fh2 fs0) 2 (bodyRun.sl.HS7_2 c fh0 fh1 fh2 fs0 fs1 fs3) ∧ Lanes (hRef c fh0 fh1 fh2 fs0) 2 (bodyRun.sl.r_10 c fh0 fh1 fh2 fs0 fs1 fs3) :=
    h_step (lo := sl1 c fh2 fs1 256 inb_S1x8192_S1x256_0_256) (hi := sl1 c fh2 fs1 4352 inb_S1x8192_S1x256_0_4352) s1 (by decide) rfl w1 (sl1_at c fh2 fs1 _ _ _ rfl (by decide)) (sl1_at c fh2 fs1 _ _ _ rfl (by decide)) rfl rfl
  have s3 : Filled (Val := Elt Ideal) (e := .f32) (N := 4096) (hRef c fh0 fh1 fh2 fs0) 3 (bodyRun.sl.HS7_3 c fh0 fh1 fh2 fs0 fs1 fs3) ∧ Lanes (hRef c fh0 fh1 fh2 fs0) 3 (bodyRun.sl.r_11 c fh0 fh1 fh2 fs0 fs1 fs3) :=
    h_step (lo := sl1 c fh2 fs1 512 inb_S1x8192_S1x256_0_512) (hi := sl1 c fh2 fs1 4608 inb_S1x8192_S1x256_0_4608) s2 (by decide) rfl w2 (sl1_at c fh2 fs1 _ _ _ rfl (by decide)) (sl1_at c fh2 fs1 _ _ _ rfl (by decide)) rfl rfl
  have s4 : Filled (Val := Elt Ideal) (e := .f32) (N := 4096) (hRef c fh0 fh1 fh2 fs0) 4 (bodyRun.sl.HS7_4 c fh0 fh1 fh2 fs0 fs1 fs3) ∧ Lanes (hRef c fh0 fh1 fh2 fs0) 4 (bodyRun.sl.r_12 c fh0 fh1 fh2 fs0 fs1 fs3) :=
    h_step (lo := sl1 c fh2 fs1 768 inb_S1x8192_S1x256_0_768) (hi := sl1 c fh2 fs1 4864 inb_S1x8192_S1x256_0_4864) s3 (by decide) rfl w3 (sl1_at c fh2 fs1 _ _ _ rfl (by decide)) (sl1_at c fh2 fs1 _ _ _ rfl (by decide)) rfl rfl
  have s5 : Filled (Val := Elt Ideal) (e := .f32) (N := 4096) (hRef c fh0 fh1 fh2 fs0) 5 (bodyRun.sl.HS7_5 c fh0 fh1 fh2 fs0 fs1 fs3) ∧ Lanes (hRef c fh0 fh1 fh2 fs0) 5 (bodyRun.sl.r_15 c fh0 fh1 fh2 fs0 fs1 fs3) :=
    h_step (lo := sl1 c fh2 fs1 1024 inb_S1x8192_S1x256_0_1024) (hi := sl1 c fh2 fs1 5120 inb_S1x8192_S1x256_0_5120) s4 (by decide) rfl w4 (sl1_at c fh2 fs1 _ _ _ rfl (by decide)) (sl1_at c fh2 fs1 _ _ _ rfl (by decide)) rfl rfl
  have s6 : Filled (Val := Elt Ideal) (e := .f32) (N := 4096) (hRef c fh0 fh1 fh2 fs0) 6 (bodyRun.sl.HS7_6 c fh0 fh1 fh2 fs0 fs1 fs3) ∧ Lanes (hRef c fh0 fh1 fh2 fs0) 6 (bodyRun.sl.r_17 c fh0 fh1 fh2 fs0 fs1 fs3) :=
    h_step (lo := sl1 c fh2 fs1 1280 inb_S1x8192_S1x256_0_1280) (hi := sl1 c fh2 fs1 5376 inb_S1x8192_S1x256_0_5376) s5 (by decide) rfl w5 (sl1_at c fh2 fs1 _ _ _ rfl (by decide)) (sl1_at c fh2 fs1 _ _ _ rfl (by decide)) rfl rfl
  have s7 : Filled (Val := Elt Ideal) (e := .f32) (N := 4096) (hRef c fh0 fh1 fh2 fs0) 7 (bodyRun.sl.HS7_7 c fh0 fh1 fh2 fs0 fs1 fs3) ∧ Lanes (hRef c fh0 fh1 fh2 fs0) 7 (bodyRun.sl.r_21 c fh0 fh1 fh2 fs0 fs1 fs3) :=
    h_step (lo := sl1 c fh2 fs1 1536 inb_S1x8192_S1x256_0_1536) (hi := sl1 c fh2 fs1 5632 inb_S1x8192_S1x256_0_5632) s6 (by decide) rfl w6 (sl1_at c fh2 fs1 _ _ _ rfl (by decide)) (sl1_at c fh2 fs1 _ _ _ rfl (by decide)) rfl rfl
  have s8 : Filled (Val := Elt Ideal) (e := .f32) (N := 4096) (hRef c fh0 fh1 fh2 fs0) 8 (bodyRun.sl.HS7_8 c fh0 fh1 fh2 fs0 fs1 fs3) ∧ Lanes (hRef c fh0 fh1 fh2 fs0) 8 (bodyRun.sl.r_25 c fh0 fh1 fh2 fs0 fs1 fs3) :=
    h_step (lo := sl1 c fh2 fs1 1792 inb_S1x8192_S1x256_0_1792) (hi := sl1 c fh2 fs1 5888 inb_S1x8192_S1x256_0_5888) s7 (by decide) rfl w7 (sl1_at c fh2 fs1 _ _ _ rfl (by decide)) (sl1_at c fh2 fs1 _ _ _ rfl (by decide)) rfl rfl
  have s9 : Filled (Val := Elt Ideal) (e := .f32) (N := 4096) (hRef c fh0 fh1 fh2 fs0) 9 (bodyRun.sl.HS7_9 c fh0 fh1 fh2 fs0 fs1 fs3) ∧ Lanes (hRef c fh0 fh1 fh2 fs0) 9 (bodyRun.sl.r_27 c fh0 fh1 fh2 fs0 fs1 fs3) :=
    h_step (lo := sl1 c fh2 fs1 2048 inb_S1x8192_S1x256_0_2048) (hi := sl1 c fh2 fs1 6144 inb_S1x8192_S1x256_0_6144) s8 (by decide) rfl w8 (sl1_at c fh2 fs1 _ _ _ rfl (by decide)) (sl1_at c fh2 fs1 _ _ _ rfl (by decide)) rfl rfl
  have s10 : Filled (Val := Elt Ideal) (e := .f32) (N := 4096) (hRef c fh0 fh1 fh2 fs0) 10 (bodyRun.sl.HS7_10 c fh0 fh1 fh2 fs0 fs1 fs3) ∧ Lanes (hRef c fh0 fh1 fh2 fs0) 10 (bodyRun.sl.r_28 c fh0 fh1 fh2 fs0 fs1 fs3) :=
    h_step (lo := sl1 c fh2 fs1 2304 inb_S1x8192_S1x256_0_2304) (hi := sl1 c fh2 fs1 6400 inb_S1x8192_S1x256_0_6400) s9 (by decide) rfl w9 (sl1_at c fh2 fs1 _ _ _ rfl (by decide)) (sl1_at c fh2 fs1 _ _ _ rfl (by decide)) rfl rfl
  have s11 : Filled (Val := Elt Ideal) (e := .f32) (N := 4096) (hRef c fh0 fh1 fh2 fs0) 11 (bodyRun.sl.HS7_11 c fh0 fh1 fh2 fs0 fs1 fs3) ∧ Lanes (hRef c fh0 fh1 fh2 fs0) 11 (bodyRun.sl.r_29 c fh0 fh1 fh2 fs0 fs1 fs3) :=
    h_step (lo := sl1 c fh2 fs1 2560 inb_S1x8192_S1x256_0_2560) (hi := sl1 c fh2 fs1 6656 inb_S1x8192_S1x256_0_6656) s10 (by decide) rfl w10 (sl1_at c fh2 fs1 _ _ _ rfl (by decide)) (sl1_at c fh2 fs1 _ _ _ rfl (by decide)) rfl rfl
  have s12 : Filled (Val := Elt Ideal) (e := .f32) (N := 4096) (hRef c fh0 fh1 fh2 fs0) 12 (bodyRun.sl.HS7_12 c fh0 fh1 fh2 fs0 fs1 fs3) ∧ Lanes (hRef c fh0 fh1 fh2 fs0) 12 (bodyRun.sl.r_30 c fh0 fh1 fh2 fs0 fs1 fs3) :=
    h_step (lo := sl1 c fh2 fs1 2816 inb_S1x8192_S1x256_0_2816) (hi := sl1 c fh2 fs1 6912 inb_S1x8192_S1x256_0_6912) s11 (by decide) rfl w11 (sl1_at c fh2 fs1 _ _ _ rfl (by decide)) (sl1_at c fh2 fs1 _ _ _ rfl (by decide)) rfl rfl
  have s13 : Filled (Val := Elt Ideal) (e := .f32) (N := 4096) (hRef c fh0 fh1 fh2 fs0) 13 (bodyRun.sl.HS7_13 c fh0 fh1 fh2 fs0 fs1 fs3) ∧ Lanes (hRef c fh0 fh1 fh2 fs0) 13 (bodyRun.sl.r_31 c fh0 fh1 fh2 fs0 fs1 fs3) :=
    h_step (lo := sl1 c fh2 fs1 3072 inb_S1x8192_S1x256_0_3072) (hi := sl1 c fh2 fs1 7168 inb_S1x8192_S1x256_0_7168) s12 (by decide) rfl w12 (sl1_at c fh2 fs1 _ _ _ rfl (by decide)) (sl1_at c fh2 fs1 _ _ _ rfl (by decide)) rfl rfl
  have s14 : Filled (Val := Elt Ideal) (e := .f32) (N := 4096) (hRef c fh0 fh1 fh2 fs0) 14 (bodyRun.sl.HS7_14 c fh0 fh1 fh2 fs0 fs1 fs3) ∧ Lanes (hRef c fh0 fh1 fh2 fs0) 14 (bodyRun.sl.r_33 c fh0 fh1 fh2 fs0 fs1 fs3) :=
    h_step (lo := sl1 c fh2 fs1 3328 inb_S1x8192_S1x256_0_3328) (hi := sl1 c fh2 fs1 7424 inb_S1x8192_S1x256_0_7424) s13 (by decide) rfl w13 (sl1_at c fh2 fs1 _ _ _ rfl (by decide)) (sl1_at c fh2 fs1 _ _ _ rfl (by decide)) rfl rfl
  have s15 : Filled (Val := Elt Ideal) (e := .f32) (N := 4096) (hRef c fh0 fh1 fh2 fs0) 15 (bodyRun.sl.HS7_15 c fh0 fh1 fh2 fs0 fs1 fs3) ∧ Lanes (hRef c fh0 fh1 fh2 fs0) 15 (bodyRun.sl.r_36 c fh0 fh1 fh2 fs0 fs1 fs3) :=
    h_step (lo := sl1 c fh2 fs1 3584 inb_S1x8192_S1x256_0_3584) (hi := sl1 c fh2 fs1 7680 inb_S1x8192_S1x256_0_7680) s14 (by decide) rfl w14 (sl1_at c fh2 fs1 _ _ _ rfl (by decide)) (sl1_at c fh2 fs1 _ _ _ rfl (by decide)) rfl rfl
  have s16 : Filled (Val := Elt Ideal) (e := .f32) (N := 4096) (hRef c fh0 fh1 fh2 fs0) 16 (bodyRun.sl.HS7_16 c fh0 fh1 fh2 fs0 fs1 fs3) ∧ Lanes (hRef c fh0 fh1 fh2 fs0) 16 (lanes16 c fh0 fh1 fh2 fs0 fs1 fs3) :=
    h_step (lo := sl1 c fh2 fs1 3840 inb_S1x8192_S1x256_0_3840) (hi := sl1 c fh2 fs1 7936 inb_S1x8192_S1x256_0_7936) s15 (by decide) rfl w15 (sl1_at c fh2 fs1 _ _ _ rfl (by decide)) (sl1_at c fh2 fs1 _ _ _ rfl (by decide)) rfl rfl
  exact s16

/-- h as the run loads it back. -/
theorem load_h : bodyRun.sl.v1016 c fh0 fh1 fh2 fs0 fs1 fs3 = hRef c fh0 fh1 fh2 fs0 :=
  filled_load (N := 4096) (h_filled c fh0 fh1 fh2 fs0 fs1 fs3).1 (by decide) sc7.view

/-- The scale of h the run holds. -/
theorem scale_h : bodyRun.sl.r_41 c fh0 fh1 fh2 fs0 fs1 fs3 = Cert.ReferenceIdeal.Gen.k0_pay10 (F := Ideal) (bodyRun.sl.v370 c fh0 fs0) fh1
    (constant Cert.ReferenceIdeal.S256x8192 .f32 0x00000000#32) (bodyRun.sl.r_4 c fh0 fs0) fh2 :=
  (show _ = k0_pay6 (F := Ideal) (lanes16 c fh0 fh1 fh2 fs0 fs1 fs3) from rfl).trans (h_scale _ _ _ _ _ _ (h_filled c fh0 fh1 fh2 fs0 fs1 fs3).2)

/-- The codes of h the run stores. -/
theorem stored_h : k0_pay81 (F := Ideal) (bodyRun.sl.r_39 c fh0 fh1 fh2 fs0 fs1 fs3) (bodyRun.sl.r_40 c fh0 fh1 fh2 fs0 fs1 fs3) k0_pay77 (bodyRun.sl.v1016 c fh0 fh1 fh2 fs0 fs1 fs3)
    = Cert.ReferenceIdeal.Gen.k0_pay9 (F := Ideal) (bodyRun.sl.v370 c fh0 fs0) fh1 (constant Cert.ReferenceIdeal.S256x8192 .f32 0x00000000#32) (bodyRun.sl.r_4 c fh0 fs0) fh2 := by
  rw [load_h]
  exact (show _ = hCodes (lanes16 c fh0 fh1 fh2 fs0 fs1 fs3) (hRef c fh0 fh1 fh2 fs0) from rfl).trans (h_codes _ _ _ _ _ _ (h_filled c fh0 fh1 fh2 fs0 fs1 fs3).2)

/-- The codes of h the run loads back. -/
theorem codes_h : bodyRun.sl.v1032 c fh0 fh1 fh2 fs0 fs1 fs3
    = Cert.ReferenceIdeal.Gen.k0_pay9 (F := Ideal) (bodyRun.sl.v370 c fh0 fs0) fh1 (constant Cert.ReferenceIdeal.S256x8192 .f32 0x00000000#32) (bodyRun.sl.r_4 c fh0 fs0) fh2 := by
  unfold bodyRun.sl.v1032 bodyRun.sl.HS8_1
  rw [stored_h]
  exact View.readCov_unit_lit sc8.view _ _ (fun a => by fin_cases a <;> rfl)

/-- The output, by the reference, of the codes and the scale of h. -/
def oRef : FVec Ideal S256x3072 .bf16 :=
  Cert.ReferenceIdeal.Gen.k0_pay1 (F := Ideal) (bodyRun.sl.v1032 c fh0 fh1 fh2 fs0 fs1 fs3) fh3 (bodyRun.sl.r_41 c fh0 fh1 fh2 fs0 fs1 fs3) fh4

/-- The output fills tile by tile. -/
theorem o_filled :
    Filled (Val := Elt Ideal) (e := .bf16) (N := 3072) (oRef c fh0 fh1 fh2 fh3 fh4 fs0 fs1 fs3) 1 (bodyRun.sl.HS10_1 c fh0 fh1 fh2 fh3 fh4 fs0 fs1 fs2 fs3 fs4)
      ∧ Filled (Val := Elt Ideal) (e := .bf16) (N := 3072) (oRef c fh0 fh1 fh2 fh3 fh4 fs0 fs1 fs3) 2 (bodyRun.sl.HS10_2 c fh0 fh1 fh2 fh3 fh4 fs0 fs1 fs2 fs3 fs4)
      ∧ Filled (Val := Elt Ideal) (e := .bf16) (N := 3072) (oRef c fh0 fh1 fh2 fh3 fh4 fs0 fs1 fs3) 3 (bodyRun.sl.HS10_3 c fh0 fh1 fh2 fh3 fh4 fs0 fs1 fs2 fs3 fs4)
      ∧ Filled (Val := Elt Ideal) (e := .bf16) (N := 3072) (oRef c fh0 fh1 fh2 fh3 fh4 fs0 fs1 fs3) 4 (bodyRun.sl.HS10_4 c fh0 fh1 fh2 fh3 fh4 fs0 fs1 fs2 fs3 fs4)
      ∧ Filled (Val := Elt Ideal) (e := .bf16) (N := 3072) (oRef c fh0 fh1 fh2 fh3 fh4 fs0 fs1 fs3) 5 (bodyRun.sl.HS10_5 c fh0 fh1 fh2 fh3 fh4 fs0 fs1 fs2 fs3 fs4)
      ∧ Filled (Val := Elt Ideal) (e := .bf16) (N := 3072) (oRef c fh0 fh1 fh2 fh3 fh4 fs0 fs1 fs3) 6 (bodyRun.sl.HS10_6 c fh0 fh1 fh2 fh3 fh4 fs0 fs1 fs2 fs3 fs4)
      ∧ Filled (Val := Elt Ideal) (e := .bf16) (N := 3072) (oRef c fh0 fh1 fh2 fh3 fh4 fs0 fs1 fs3) 7 (bodyRun.sl.HS10_7 c fh0 fh1 fh2 fh3 fh4 fs0 fs1 fs2 fs3 fs4)
      ∧ Filled (Val := Elt Ideal) (e := .bf16) (N := 3072) (oRef c fh0 fh1 fh2 fh3 fh4 fs0 fs1 fs3) 8 (bodyRun.sl.HS10_8 c fh0 fh1 fh2 fh3 fh4 fs0 fs1 fs2 fs3 fs4)
      ∧ Filled (Val := Elt Ideal) (e := .bf16) (N := 3072) (oRef c fh0 fh1 fh2 fh3 fh4 fs0 fs1 fs3) 9 (bodyRun.sl.HS10_9 c fh0 fh1 fh2 fh3 fh4 fs0 fs1 fs2 fs3 fs4)
      ∧ Filled (Val := Elt Ideal) (e := .bf16) (N := 3072) (oRef c fh0 fh1 fh2 fh3 fh4 fs0 fs1 fs3) 10 (bodyRun.sl.HS10_10 c fh0 fh1 fh2 fh3 fh4 fs0 fs1 fs2 fs3 fs4)
      ∧ Filled (Val := Elt Ideal) (e := .bf16) (N := 3072) (oRef c fh0 fh1 fh2 fh3 fh4 fs0 fs1 fs3) 11 (bodyRun.sl.HS10_11 c fh0 fh1 fh2 fh3 fh4 fs0 fs1 fs2 fs3 fs4)
      ∧ Filled (Val := Elt Ideal) (e := .bf16) (N := 3072) (oRef c fh0 fh1 fh2 fh3 fh4 fs0 fs1 fs3) 12 (bodyRun.sl.HS10_12 c fh0 fh1 fh2 fh3 fh4 fs0 fs1 fs2 fs3 fs4) := by
  obtain ⟨w0, w1, w2, w3, w4, w5, w6, w7, w8, w9, w10, w11⟩ := slots2 (F := Ideal) c fh3 fs4
  have s0 : Filled (Val := Elt Ideal) (e := .bf16) (N := 3072) (oRef c fh0 fh1 fh2 fh3 fh4 fs0 fs1 fs3) 0 [] := filled_zero _
  have s1 : Filled (Val := Elt Ideal) (e := .bf16) (N := 3072) (oRef c fh0 fh1 fh2 fh3 fh4 fs0 fs1 fs3) 1 (bodyRun.sl.HS10_1 c fh0 fh1 fh2 fh3 fh4 fs0 fs1 fs2 fs3 fs4) :=
    o_step (t := sl2 c fh4 fs2 0 inb_S1x3072_S1x256_0_0) s0 (by decide) rfl w0 (sl2_at c fh4 fs2 _ _ _ rfl (by decide)) rfl
  have s2 : Filled (Val := Elt Ideal) (e := .bf16) (N := 3072) (oRef c fh0 fh1 fh2 fh3 fh4 fs0 fs1 fs3) 2 (bodyRun.sl.HS10_2 c fh0 fh1 fh2 fh3 fh4 fs0 fs1 fs2 fs3 fs4) :=
    o_step (t := sl2 c fh4 fs2 256 inb_S1x3072_S1x256_0_256) s1 (by decide) rfl w1 (sl2_at c fh4 fs2 _ _ _ rfl (by decide)) rfl
  have s3 : Filled (Val := Elt Ideal) (e := .bf16) (N := 3072) (oRef c fh0 fh1 fh2 fh3 fh4 fs0 fs1 fs3) 3 (bodyRun.sl.HS10_3 c fh0 fh1 fh2 fh3 fh4 fs0 fs1 fs2 fs3 fs4) :=
    o_step (t := sl2 c fh4 fs2 512 inb_S1x3072_S1x256_0_512) s2 (by decide) rfl w2 (sl2_at c fh4 fs2 _ _ _ rfl (by decide)) rfl
  have s4 : Filled (Val := Elt Ideal) (e := .bf16) (N := 3072) (oRef c fh0 fh1 fh2 fh3 fh4 fs0 fs1 fs3) 4 (bodyRun.sl.HS10_4 c fh0 fh1 fh2 fh3 fh4 fs0 fs1 fs2 fs3 fs4) :=
    o_step (t := sl2 c fh4 fs2 768 inb_S1x3072_S1x256_0_768) s3 (by decide) rfl w3 (sl2_at c fh4 fs2 _ _ _ rfl (by decide)) rfl
  have s5 : Filled (Val := Elt Ideal) (e := .bf16) (N := 3072) (oRef c fh0 fh1 fh2 fh3 fh4 fs0 fs1 fs3) 5 (bodyRun.sl.HS10_5 c fh0 fh1 fh2 fh3 fh4 fs0 fs1 fs2 fs3 fs4) :=
    o_step (t := sl2 c fh4 fs2 1024 inb_S1x3072_S1x256_0_1024) s4 (by decide) rfl w4 (sl2_at c fh4 fs2 _ _ _ rfl (by decide)) rfl
  have s6 : Filled (Val := Elt Ideal) (e := .bf16) (N := 3072) (oRef c fh0 fh1 fh2 fh3 fh4 fs0 fs1 fs3) 6 (bodyRun.sl.HS10_6 c fh0 fh1 fh2 fh3 fh4 fs0 fs1 fs2 fs3 fs4) :=
    o_step (t := sl2 c fh4 fs2 1280 inb_S1x3072_S1x256_0_1280) s5 (by decide) rfl w5 (sl2_at c fh4 fs2 _ _ _ rfl (by decide)) rfl
  have s7 : Filled (Val := Elt Ideal) (e := .bf16) (N := 3072) (oRef c fh0 fh1 fh2 fh3 fh4 fs0 fs1 fs3) 7 (bodyRun.sl.HS10_7 c fh0 fh1 fh2 fh3 fh4 fs0 fs1 fs2 fs3 fs4) :=
    o_step (t := sl2 c fh4 fs2 1536 inb_S1x3072_S1x256_0_1536) s6 (by decide) rfl w6 (sl2_at c fh4 fs2 _ _ _ rfl (by decide)) rfl
  have s8 : Filled (Val := Elt Ideal) (e := .bf16) (N := 3072) (oRef c fh0 fh1 fh2 fh3 fh4 fs0 fs1 fs3) 8 (bodyRun.sl.HS10_8 c fh0 fh1 fh2 fh3 fh4 fs0 fs1 fs2 fs3 fs4) :=
    o_step (t := sl2 c fh4 fs2 1792 inb_S1x3072_S1x256_0_1792) s7 (by decide) rfl w7 (sl2_at c fh4 fs2 _ _ _ rfl (by decide)) rfl
  have s9 : Filled (Val := Elt Ideal) (e := .bf16) (N := 3072) (oRef c fh0 fh1 fh2 fh3 fh4 fs0 fs1 fs3) 9 (bodyRun.sl.HS10_9 c fh0 fh1 fh2 fh3 fh4 fs0 fs1 fs2 fs3 fs4) :=
    o_step (t := sl2 c fh4 fs2 2048 inb_S1x3072_S1x256_0_2048) s8 (by decide) rfl w8 (sl2_at c fh4 fs2 _ _ _ rfl (by decide)) rfl
  have s10 : Filled (Val := Elt Ideal) (e := .bf16) (N := 3072) (oRef c fh0 fh1 fh2 fh3 fh4 fs0 fs1 fs3) 10 (bodyRun.sl.HS10_10 c fh0 fh1 fh2 fh3 fh4 fs0 fs1 fs2 fs3 fs4) :=
    o_step (t := sl2 c fh4 fs2 2304 inb_S1x3072_S1x256_0_2304) s9 (by decide) rfl w9 (sl2_at c fh4 fs2 _ _ _ rfl (by decide)) rfl
  have s11 : Filled (Val := Elt Ideal) (e := .bf16) (N := 3072) (oRef c fh0 fh1 fh2 fh3 fh4 fs0 fs1 fs3) 11 (bodyRun.sl.HS10_11 c fh0 fh1 fh2 fh3 fh4 fs0 fs1 fs2 fs3 fs4) :=
    o_step (t := sl2 c fh4 fs2 2560 inb_S1x3072_S1x256_0_2560) s10 (by decide) rfl w10 (sl2_at c fh4 fs2 _ _ _ rfl (by decide)) rfl
  have s12 : Filled (Val := Elt Ideal) (e := .bf16) (N := 3072) (oRef c fh0 fh1 fh2 fh3 fh4 fs0 fs1 fs3) 12 (bodyRun.sl.HS10_12 c fh0 fh1 fh2 fh3 fh4 fs0 fs1 fs2 fs3 fs4) :=
    o_step (t := sl2 c fh4 fs2 2816 inb_S1x3072_S1x256_0_2816) s11 (by decide) rfl w11 (sl2_at c fh4 fs2 _ _ _ rfl (by decide)) rfl
  exact ⟨s1, s2, s3, s4, s5, s6, s7, s8, s9, s10, s11, s12⟩

/-- The twelve copies of the output's tiles into HBM, last first. -/
def outs (fs10 : HbBuf (F := Ideal) c sc10) : List (View.Piece (Elt Ideal) S256x3072 .bf16) :=
  [⟨Rect.unit (s := S256x3072) ![0, 2816] S256x256.size inb_S256x3072_S256x256_0_2816, bodyRun.sl.dma166 c fh0 fh1 fh2 fh3 fh4 fs0 fs1 fs2 fs3 fs4 fs10⟩,
    ⟨Rect.unit (s := S256x3072) ![0, 2560] S256x256.size inb_S256x3072_S256x256_0_2560, bodyRun.sl.dma161 c fh0 fh1 fh2 fh3 fh4 fs0 fs1 fs2 fs3 fs4 fs10⟩,
    ⟨Rect.unit (s := S256x3072) ![0, 2304] S256x256.size inb_S256x3072_S256x256_0_2304, bodyRun.sl.dma156 c fh0 fh1 fh2 fh3 fh4 fs0 fs1 fs2 fs3 fs4 fs10⟩,
    ⟨Rect.unit (s := S256x3072) ![0, 2048] S256x256.size inb_S256x3072_S256x256_0_2048, bodyRun.sl.dma151 c fh0 fh1 fh2 fh3 fh4 fs0 fs1 fs2 fs3 fs4 fs10⟩,
    ⟨Rect.unit (s := S256x3072) ![0, 1792] S256x256.size inb_S256x3072_S256x256_0_1792, bodyRun.sl.dma146 c fh0 fh1 fh2 fh3 fh4 fs0 fs1 fs2 fs3 fs4 fs10⟩,
    ⟨Rect.unit (s := S256x3072) ![0, 1536] S256x256.size inb_S256x3072_S256x256_0_1536, bodyRun.sl.dma141 c fh0 fh1 fh2 fh3 fh4 fs0 fs1 fs2 fs3 fs4 fs10⟩,
    ⟨Rect.unit (s := S256x3072) ![0, 1280] S256x256.size inb_S256x3072_S256x256_0_1280, bodyRun.sl.dma136 c fh0 fh1 fh2 fh3 fh4 fs0 fs1 fs2 fs3 fs4 fs10⟩,
    ⟨Rect.unit (s := S256x3072) ![0, 1024] S256x256.size inb_S256x3072_S256x256_0_1024, bodyRun.sl.dma131 c fh0 fh1 fh2 fh3 fh4 fs0 fs1 fs2 fs3 fs4 fs10⟩,
    ⟨Rect.unit (s := S256x3072) ![0, 768] S256x256.size inb_S256x3072_S256x256_0_768, bodyRun.sl.dma126 c fh0 fh1 fh2 fh3 fh4 fs0 fs1 fs2 fs3 fs4 fs10⟩,
    ⟨Rect.unit (s := S256x3072) ![0, 512] S256x256.size inb_S256x3072_S256x256_0_512, bodyRun.sl.dma121 c fh0 fh1 fh2 fh3 fh4 fs0 fs1 fs2 fs3 fs4 fs10⟩,
    ⟨Rect.unit (s := S256x3072) ![0, 256] S256x256.size inb_S256x3072_S256x256_0_256, bodyRun.sl.dma116 c fh0 fh1 fh2 fh3 fh4 fs0 fs1 fs2 fs3 fs4 fs10⟩,
    ⟨Rect.unit (s := S256x3072) ![0, 0] S256x256.size inb_S256x3072_S256x256_0_0, bodyRun.sl.dma111_2 c fh0 fh1 fh2 fh3 fh4 fs0 fs1 fs2 fs3 fs4 fs10⟩]

/-- The output's rows in HBM fill tile by tile: the twelve copies out. -/
theorem out_filled (fs10 : HbBuf (F := Ideal) c sc10) : Filled (Val := Elt Ideal) (e := .bf16) (N := 3072) (oRef c fh0 fh1 fh2 fh3 fh4 fs0 fs1 fs3) 12 (outs c fh0 fh1 fh2 fh3 fh4 fs0 fs1 fs2 fs3 fs4 fs10) := by
  obtain ⟨o0, o1, o2, o3, o4, o5, o6, o7, o8, o9, o10, o11⟩ := o_filled c fh0 fh1 fh2 fh3 fh4 fs0 fs1 fs2 fs3 fs4
  have s0 : Filled (Val := Elt Ideal) (e := .bf16) (N := 3072) (oRef c fh0 fh1 fh2 fh3 fh4 fs0 fs1 fs3) 0 [] := filled_zero _
  have s1 := out_step s0 o0 (by decide) 0 rfl inb_S256x3072_S256x256_0_0 _ fs10 (bodyRun.sl.dma111_2 c fh0 fh1 fh2 fh3 fh4 fs0 fs1 fs2 fs3 fs4 fs10) rfl
  have s2 := out_step s1 o1 (by decide) 256 rfl inb_S256x3072_S256x256_0_256 _ fs10 (bodyRun.sl.dma116 c fh0 fh1 fh2 fh3 fh4 fs0 fs1 fs2 fs3 fs4 fs10) rfl
  have s3 := out_step s2 o2 (by decide) 512 rfl inb_S256x3072_S256x256_0_512 _ fs10 (bodyRun.sl.dma121 c fh0 fh1 fh2 fh3 fh4 fs0 fs1 fs2 fs3 fs4 fs10) rfl
  have s4 := out_step s3 o3 (by decide) 768 rfl inb_S256x3072_S256x256_0_768 _ fs10 (bodyRun.sl.dma126 c fh0 fh1 fh2 fh3 fh4 fs0 fs1 fs2 fs3 fs4 fs10) rfl
  have s5 := out_step s4 o4 (by decide) 1024 rfl inb_S256x3072_S256x256_0_1024 _ fs10 (bodyRun.sl.dma131 c fh0 fh1 fh2 fh3 fh4 fs0 fs1 fs2 fs3 fs4 fs10) rfl
  have s6 := out_step s5 o5 (by decide) 1280 rfl inb_S256x3072_S256x256_0_1280 _ fs10 (bodyRun.sl.dma136 c fh0 fh1 fh2 fh3 fh4 fs0 fs1 fs2 fs3 fs4 fs10) rfl
  have s7 := out_step s6 o6 (by decide) 1536 rfl inb_S256x3072_S256x256_0_1536 _ fs10 (bodyRun.sl.dma141 c fh0 fh1 fh2 fh3 fh4 fs0 fs1 fs2 fs3 fs4 fs10) rfl
  have s8 := out_step s7 o7 (by decide) 1792 rfl inb_S256x3072_S256x256_0_1792 _ fs10 (bodyRun.sl.dma146 c fh0 fh1 fh2 fh3 fh4 fs0 fs1 fs2 fs3 fs4 fs10) rfl
  have s9 := out_step s8 o8 (by decide) 2048 rfl inb_S256x3072_S256x256_0_2048 _ fs10 (bodyRun.sl.dma151 c fh0 fh1 fh2 fh3 fh4 fs0 fs1 fs2 fs3 fs4 fs10) rfl
  have s10 := out_step s9 o9 (by decide) 2304 rfl inb_S256x3072_S256x256_0_2304 _ fs10 (bodyRun.sl.dma156 c fh0 fh1 fh2 fh3 fh4 fs0 fs1 fs2 fs3 fs4 fs10) rfl
  have s11 := out_step s10 o10 (by decide) 2560 rfl inb_S256x3072_S256x256_0_2560 _ fs10 (bodyRun.sl.dma161 c fh0 fh1 fh2 fh3 fh4 fs0 fs1 fs2 fs3 fs4 fs10) rfl
  have s12 := out_step s11 o11 (by decide) 2816 rfl inb_S256x3072_S256x256_0_2816 _ fs10 (bodyRun.sl.dma166 c fh0 fh1 fh2 fh3 fh4 fs0 fs1 fs2 fs3 fs4 fs10) rfl
  exact s12

end

/-- The reference's five expressions of the operands. -/
def closed (c : Dev nD) (fh0 : HbBuf (F := Ideal) c hb0) (fh1 : HbBuf (F := Ideal) c hb1) (fh2 : HbBuf (F := Ideal) c hb2)
    (fh3 : HbBuf (F := Ideal) c hb3) (fh4 : HbBuf (F := Ideal) c hb4) : Outs Ideal c where
  out := Cert.ReferenceIdeal.Gen.k0_pay1 (F := Ideal) (Cert.ReferenceIdeal.Gen.k0_pay9 (F := Ideal) (Cert.ReferenceIdeal.Gen.k0_pay4 (F := Ideal) fh0) fh1 (constant Cert.ReferenceIdeal.S256x8192 .f32 0x00000000#32) (Cert.ReferenceIdeal.Gen.k0_pay5 (F := Ideal) fh0) fh2) fh3 (Cert.ReferenceIdeal.Gen.k0_pay10 (F := Ideal) (Cert.ReferenceIdeal.Gen.k0_pay4 (F := Ideal) fh0) fh1 (constant Cert.ReferenceIdeal.S256x8192 .f32 0x00000000#32) (Cert.ReferenceIdeal.Gen.k0_pay5 (F := Ideal) fh0) fh2) fh4
  xCodes := Cert.ReferenceIdeal.Gen.k0_pay4 (F := Ideal) fh0
  xScale := Cert.ReferenceIdeal.Gen.k0_pay5 (F := Ideal) fh0
  hCodes := (Cert.ReferenceIdeal.Gen.k0_pay9 (F := Ideal) (Cert.ReferenceIdeal.Gen.k0_pay4 (F := Ideal) fh0) fh1 (constant Cert.ReferenceIdeal.S256x8192 .f32 0x00000000#32) (Cert.ReferenceIdeal.Gen.k0_pay5 (F := Ideal) fh0) fh2)
  hScale := (Cert.ReferenceIdeal.Gen.k0_pay10 (F := Ideal) (Cert.ReferenceIdeal.Gen.k0_pay4 (F := Ideal) fh0) fh1 (constant Cert.ReferenceIdeal.S256x8192 .f32 0x00000000#32) (Cert.ReferenceIdeal.Gen.k0_pay5 (F := Ideal) fh0) fh2)

/-- A write of a whole buffer leaves what it writes. -/
theorem write_all (b : Ref sig .tc) (f : b.ty.Contents (Elt Ideal)) (w : b.ty.shape.Idx → Elt Ideal b.ty.elt) :
    View.write (Elt Ideal) (View.whole b) f w Finset.univ = w :=
  View.read_write_univ (v := View.whole b) (f := f) w

set_option maxHeartbeats 2000000 in
/-- What the body's run leaves in the five results. -/
theorem run_outs (c : Dev nD) (fh0 : HbBuf (F := Ideal) c hb0) (fh1 : HbBuf (F := Ideal) c hb1) (fh2 : HbBuf (F := Ideal) c hb2)
    (fh3 : HbBuf (F := Ideal) c hb3) (fh4 : HbBuf (F := Ideal) c hb4) (fh5 : HbBuf (F := Ideal) c hb5) (fh6 : HbBuf (F := Ideal) c hb6) (fh7 : HbBuf (F := Ideal) c hb7) (fh8 : HbBuf (F := Ideal) c hb8) (fh9 : HbBuf (F := Ideal) c hb9) (fs0 : HbBuf (F := Ideal) c sc0)
    (fs1 : HbBuf (F := Ideal) c sc1) (fs2 : HbBuf (F := Ideal) c sc2) (fs3 : HbBuf (F := Ideal) c sc3) (fs4 : HbBuf (F := Ideal) c sc4)
    (fs5 : HbBuf (F := Ideal) c sc5) (fs6 : HbBuf (F := Ideal) c sc6) (fs7 : HbBuf (F := Ideal) c sc7) (fs8 : HbBuf (F := Ideal) c sc8)
    (fs9 : HbBuf (F := Ideal) c sc9) (fs10 : HbBuf (F := Ideal) c sc10) :
    (bodyRun c fh0 fh1 fh2 fh3 fh4 ⟨fh5, fh6, fh7, fh8, fh9⟩ fs0 fs1 fs2 fs3 fs4 fs5 fs6 fs7 fs8 fs9 fs10).1
      = ⟨(View.whole main_v3_0).writes (Elt Ideal) fh5 (outs c fh0 fh1 fh2 fh3 fh4 fs0 fs1 fs2 fs3 fs4 fs10),
        View.write (Elt Ideal) (View.whole main_v3_1) fh6 (bodyRun.sl.dma11 c fh0 fs0 fs5) Finset.univ,
        View.write (Elt Ideal) (View.whole main_v3_2) fh7 (bodyRun.sl.dma11_1 c fh0 fs0 fs6) Finset.univ,
        View.write (Elt Ideal) (View.whole main_v3_3) fh8 (bodyRun.sl.dma111 c fh0 fh1 fh2 fs0 fs1 fs3 fs8) Finset.univ,
        View.write (Elt Ideal) (View.whole main_v3_4) fh9 (bodyRun.sl.dma111_1 c fh0 fh1 fh2 fs0 fs1 fs3 fs9) Finset.univ⟩ := by
  unfold bodyRun outs
  rfl

set_option maxHeartbeats 1000000 in
/-- The body's run in closed form: the reference's five expressions of the operands. -/
theorem run_closed (c : Dev nD) (fh0 : HbBuf (F := Ideal) c hb0) (fh1 : HbBuf (F := Ideal) c hb1) (fh2 : HbBuf (F := Ideal) c hb2)
    (fh3 : HbBuf (F := Ideal) c hb3) (fh4 : HbBuf (F := Ideal) c hb4) (g : Outs Ideal c) (fs0 : HbBuf (F := Ideal) c sc0)
    (fs1 : HbBuf (F := Ideal) c sc1) (fs2 : HbBuf (F := Ideal) c sc2) (fs3 : HbBuf (F := Ideal) c sc3) (fs4 : HbBuf (F := Ideal) c sc4)
    (fs5 : HbBuf (F := Ideal) c sc5) (fs6 : HbBuf (F := Ideal) c sc6) (fs7 : HbBuf (F := Ideal) c sc7) (fs8 : HbBuf (F := Ideal) c sc8)
    (fs9 : HbBuf (F := Ideal) c sc9) (fs10 : HbBuf (F := Ideal) c sc10) :
    (bodyRun c fh0 fh1 fh2 fh3 fh4 g fs0 fs1 fs2 fs3 fs4 fs5 fs6 fs7 fs8 fs9 fs10).1 = closed c fh0 fh1 fh2 fh3 fh4 := by
  obtain ⟨fh5, fh6, fh7, fh8, fh9⟩ := g
  have e5 : (View.whole main_v3_0).writes (Elt Ideal) fh5 (outs c fh0 fh1 fh2 fh3 fh4 fs0 fs1 fs2 fs3 fs4 fs10) = oRef c fh0 fh1 fh2 fh3 fh4 fs0 fs1 fs3 :=
    filled_read_all (Val := Elt Ideal) (e := .bf16) (N := 3072) (out_filled c fh0 fh1 fh2 fh3 fh4 fs0 fs1 fs2 fs3 fs4 fs10) (by decide) (View.whole main_v3_0) fh5
  have e6 : bodyRun.sl.dma11 c fh0 fs0 fs5 = Cert.ReferenceIdeal.Gen.k0_pay4 (F := Ideal) fh0 := by
    unfold bodyRun.sl.dma11 bodyRun.sl.HS5_1
    rw [stored_x]
    exact whole_read sc5.view fs5 _ _ (fun a => by fin_cases a <;> rfl)
  have e7 : bodyRun.sl.dma11_1 c fh0 fs0 fs6 = Cert.ReferenceIdeal.Gen.k0_pay5 (F := Ideal) fh0 := by
    unfold bodyRun.sl.dma11_1 bodyRun.sl.HS6_1 k0_pay8
    rw [scale_x, shapeCast_self]
    exact whole_read sc6.view fs6 _ _ (fun a => by fin_cases a <;> rfl)
  have e8 : bodyRun.sl.dma111 c fh0 fh1 fh2 fs0 fs1 fs3 fs8 = (Cert.ReferenceIdeal.Gen.k0_pay9 (F := Ideal) (Cert.ReferenceIdeal.Gen.k0_pay4 (F := Ideal) fh0) fh1 (constant Cert.ReferenceIdeal.S256x8192 .f32 0x00000000#32) (Cert.ReferenceIdeal.Gen.k0_pay5 (F := Ideal) fh0) fh2) := by
    unfold bodyRun.sl.dma111 bodyRun.sl.HS8_1
    rw [stored_h, codes_x, scale_x]
    exact whole_read sc8.view fs8 _ _ (fun a => by fin_cases a <;> rfl)
  have e9 : bodyRun.sl.dma111_1 c fh0 fh1 fh2 fs0 fs1 fs3 fs9 = (Cert.ReferenceIdeal.Gen.k0_pay10 (F := Ideal) (Cert.ReferenceIdeal.Gen.k0_pay4 (F := Ideal) fh0) fh1 (constant Cert.ReferenceIdeal.S256x8192 .f32 0x00000000#32) (Cert.ReferenceIdeal.Gen.k0_pay5 (F := Ideal) fh0) fh2) := by
    have h := scale_h c fh0 fh1 fh2 fs0 fs1 fs3
    rw [codes_x, scale_x] at h
    unfold bodyRun.sl.r_41 at h
    unfold bodyRun.sl.dma111_1 bodyRun.sl.HS9_1 k0_pay80
    rw [h, shapeCast_self]
    exact whole_read sc9.view fs9 _ _ (fun a => by fin_cases a <;> rfl)
  rw [run_outs, e5, write_all main_v3_1, write_all main_v3_2, write_all main_v3_3, write_all main_v3_4, e6, e7, e8, e9]
  unfold oRef closed
  rw [codes_h, scale_h, codes_x, scale_x]

end Cert.KernelIdeal.Hand
-- ==== Proof.KernelIdealValue.lean ====
/-
  The kernel's run at the ideal reading with its values: the region leaves the five results at the reference's five
  expressions of the operands, the host lines before it reshape x and the two scale rows, and the host lines after it
  reshape the results.
-/
module

public import proofs.«01_k».proof.Proof.KernelIdealFrame
public import proofs.«01_k».proof.Proof.Closed
public import Idealize.ShloMosaic.Lib.Pipeline.FrameSuffixV

@[expose] public section

noncomputable section

namespace Cert.KernelIdeal.Value

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

/-- The lines after the region give the result out a leading axis. -/
theorem tail_v4 (W : Valuation τ sig (Elt Ideal)) : StableHlo.after hostOps1 W (Proc.devRef .tc main_v4)
    = shapeCast S1x256x3072 (W (Proc.devRef .tc main_v3_0) : S256x3072.Idx → Elt Ideal .bf16) shapeCasts_S256x3072_S1x256x3072 := by
  after_results
  rfl

/-- The lines after the region give the result x codes a leading axis. -/
theorem tail_v5 (W : Valuation τ sig (Elt Ideal)) : StableHlo.after hostOps1 W (Proc.devRef .tc main_v5)
    = shapeCast S1x256x3072 (W (Proc.devRef .tc main_v3_1) : S256x3072.Idx → Elt Ideal .fp8e4m3) shapeCasts_S256x3072_S1x256x3072 := by
  after_results
  rfl

/-- The lines after the region give the result x scale a leading axis. -/
theorem tail_v6 (W : Valuation τ sig (Elt Ideal)) : StableHlo.after hostOps1 W (Proc.devRef .tc main_v6)
    = shapeCast S1x256x1 (W (Proc.devRef .tc main_v3_2) : S256x1.Idx → Elt Ideal .f32) shapeCasts_S256x1_S1x256x1 := by
  after_results
  rfl

/-- The lines after the region give the result h codes a leading axis. -/
theorem tail_v7 (W : Valuation τ sig (Elt Ideal)) : StableHlo.after hostOps1 W (Proc.devRef .tc main_v7)
    = shapeCast S1x256x4096 (W (Proc.devRef .tc main_v3_3) : S256x4096.Idx → Elt Ideal .fp8e4m3) shapeCasts_S256x4096_S1x256x4096 := by
  after_results
  rfl

/-- The lines after the region give the result h scale a leading axis. -/
theorem tail_v8 (W : Valuation τ sig (Elt Ideal)) : StableHlo.after hostOps1 W (Proc.devRef .tc main_v8)
    = shapeCast S1x256x1 (W (Proc.devRef .tc main_v3_4) : S256x1.Idx → Elt Ideal .f32) shapeCasts_S256x1_S1x256x1 := by
  after_results
  rfl

variable (m : (ℓ : Loc nD τ sig) → Buf (Elt Ideal) ℓ) (ρ : Dev nD → PrngReg)

/-- The lines before the region give x its region's shape. -/
theorem head_v0 (c : Dev nD) : V m c main_v0
    = shapeCast S256x3072 (m ((c : Thread nD τ).loc main_arg0) : S1x256x3072.Idx → Elt Ideal .bf16) shapeCasts_S1x256x3072_S256x3072 := by
  show StableHlo.after hostOps0 (fun b => m (c, b)) (Proc.devRef .tc main_v0) = _
  after_results
  rfl

/-- The lines before the region give the gate/up scales its region's shape. -/
theorem head_v1 (c : Dev nD) : V m c main_v1
    = shapeCast S1x8192 (m ((c : Thread nD τ).loc main_arg2) : S8192.Idx → Elt Ideal .f32) shapeCasts_S8192_S1x8192 := by
  show StableHlo.after hostOps0 (fun b => m (c, b)) (Proc.devRef .tc main_v1) = _
  after_results
  rfl

/-- The lines before the region give the down scales its region's shape. -/
theorem head_v2 (c : Dev nD) : V m c main_v2
    = shapeCast S1x3072 (m ((c : Thread nD τ).loc main_arg4) : S3072.Idx → Elt Ideal .f32) shapeCasts_S3072_S1x3072 := by
  show StableHlo.after hostOps0 (fun b => m (c, b)) (Proc.devRef .tc main_v2) = _
  after_results
  rfl

/-- The results the region leaves. -/
def got (c : Dev nD) : Outs Ideal c := closed c (V m c main_v0) (V m c main_arg1) (V m c main_v1) (V m c main_arg3) (V m c main_v2)

/-- The region's exit at the results' buffers. -/
def exitG (c : Dev nD) : (b : Ref sig .tc) → Buf (Elt Ideal) ((c : Thread nD τ).loc b) :=
  Function.update (Function.update (Function.update (Function.update (Function.update (V m c) main_v3_4 (got m c).hScale) main_v3_3 (got m c).hCodes)
    main_v3_2 (got m c).xScale) main_v3_1 (got m c).xCodes) main_v3_0 (got m c).out

/-- The exit, result by result. -/
theorem exit_results (c : Dev nD) : (⟨exitG m c main_v3_0, exitG m c main_v3_1, exitG m c main_v3_2, exitG m c main_v3_3, exitG m c main_v3_4⟩ : Outs Ideal c) = got m c := by
  unfold exitG
  rw [Function.update_self, Function.update_of_ne (by decide), Function.update_self, Function.update_of_ne (by decide), Function.update_of_ne (by decide), Function.update_self,
    Function.update_of_ne (by decide), Function.update_of_ne (by decide), Function.update_of_ne (by decide), Function.update_self,
    Function.update_of_ne (by decide), Function.update_of_ne (by decide), Function.update_of_ne (by decide), Function.update_of_ne (by decide), Function.update_self]

/-- The region's invariant with values, one by one. -/
theorem PhiDRV_eq (X : (c : Dev nD) → (b : Ref sig .tc) → Buf (Elt Ideal) ((c : Thread nD τ).loc b)) (c : Dev nD) :
    (Pipeline.ΦDRV osem0 cfg0.spec H0 R0 (V m) X c : sProp 𝕄)
      = iprop(scratches (F := Ideal) c ∗ cells0 (F := Ideal) c ∗ operands c (V m c main_v0) (V m c main_arg1) (V m c main_v1) (V m c main_arg3) (V m c main_v2)
          ∗ results c ⟨X c main_v3_0, X c main_v3_1, X c main_v3_2, X c main_v3_3, X c main_v3_4⟩) := by
  unfold Pipeline.ΦDRV
  rw [scratches_eq, ownSems00_eq, operands_eq, results_eq]

/-- The proof data of the one pipeline: the results as the region finds them before the body, at their values after. -/
def dats (_ : Fin 1) (c : Dev nD) : Dat τ (Elt Ideal) Unit ℕ (Pipeline.UD sig nD τ) ℕ cfg0 c where
  A w := w.elim0
  after w := w.elim0
  Φ t := Pipeline.ΦDRV osem0 cfg0.spec H0 R0 (V m) (if t.1 = 0 then V m else exitG m) c
  q _ := fullShare
  owed _ := 0

/-- The body at the grid's one point: the run, with its values. -/
theorem sound_body (c : Dev nD) (t : Fin cfg0.N) :
    iprop((dats m 0 c).Φ t.castSucc ∗ (dats m 0 c).owesAt () t.castSucc ∗ emp)
      ⊢ wp frame (wpE (defs₀ (F := Ideal)) Variants.none c none) Set.univ (bodyAt0 t)
          (fun _ => iprop((dats m 0 c).Φ t.succ ∗ (dats m 0 c).owesAt () t.succ ∗ emp)) := by
  have ht : t.1 = 0 := by have h : t.1 < 1 := t.2; omega
  unfold bodyAt0
  rw [show (dats m 0 c).Φ t.succ = Pipeline.ΦDRV osem0 cfg0.spec H0 R0 (V m) (exitG m) c from
      congrArg (fun X => Pipeline.ΦDRV osem0 cfg0.spec H0 R0 (V m) X c) (if_neg (by show ¬ t.1 + 1 = 0; omega)),
    show (dats m 0 c).Φ t.castSucc = Pipeline.ΦDRV osem0 cfg0.spec H0 R0 (V m) (V m) c from
      congrArg (fun X => Pipeline.ΦDRV osem0 cfg0.spec H0 R0 (V m) X c) (if_pos ht),
    PhiDRV_eq, PhiDRV_eq, exit_results]
  unfold Dat.owesAt Pipeline.owesWithin
  rw [show (dats m 0 c).owed t.castSucc = 0 from rfl, show (dats m 0 c).owed t.succ = 0 from rfl]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩⟩, Hq, Hh, Hg⟩, ⟨%W, -, HW⟩, He⟩
  have hgot := run_closed c (V m c main_v0) (V m c main_arg1) (V m c main_v1) (V m c main_arg3) (V m c main_v2)
    ⟨V m c main_v3_0, V m c main_v3_1, V m c main_v3_2, V m c main_v3_3, V m c main_v3_4⟩ s0 s1 s2 s3 s4 s5 s6 s7 s8 s9 s10
  have hrun := (bodyRun c (V m c main_v0) (V m c main_arg1) (V m c main_v1) (V m c main_arg3) (V m c main_v2)
    ⟨V m c main_v3_0, V m c main_v3_1, V m c main_v3_2, V m c main_v3_3, V m c main_v3_4⟩ s0 s1 s2 s3 s4 s5 s6 s7 s8 s9 s10).2
  rw [hgot] at hrun
  iapply (hrun W _)
  isplitl [Hh]; · iexact Hh
  isplitl [Hg]; · iexact Hg
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [Hq]; · iexact Hq
  isplitl [HW]; · iexact HW
  iintro ⟨Hh, Hg, HS, Hq, ⟨%W', HW'⟩⟩
  isplitl [HS Hq Hh Hg]
  · isplitl [HS]; · iexact HS
    isplitl [Hq]; · iexact Hq
    isplitl [Hh]; · iexact Hh
    iexact Hg
  isplitl [HW']
  · iexists W'; isplitr; · ipureintro; exact fun _ _ => Or.inl trivial
    iexact HW'
  iexact He

/-- The library's body obligation. -/
theorem body_obligation (c : Dev nD) : BodyObligation (dats m 0 c) (defs₀ (F := Ideal)) Variants.none () Set.univ := fun t => by
  rw [bigSep_none, bigSep_none, defs₀_row]
  exact triple_restated (sound_body m c t) rfl .rfl fun _ => .rfl

/-- The contents the lines after the region find. -/
def exitV (c : Dev nD) : Valuation τ sig (Elt Ideal) :=
  Pipeline.withArrays cfg0.spec c (Pipeline.withR (V0 m c) R0 c (exitG m c)) fun w => (dats m 0 c).arrAt w cfg0.N

set_option backward.isDefEq.respectTransparency.types false in
set_option maxHeartbeats 800000 in
/-- The run of @main with its values: every buffer that bypasses the region ends as the lines after it leave it. -/
theorem run_main : θ_run defs (onTc (τ := τ) (main (F := Ideal))) ⟨m, fun _ => 0, ρ⟩ (fun r => ∀ c : Dev nD, ∀ b ∈ Pipeline.restRefs sig cfg0.spec,
      r.2.mem ((c : Thread nD τ).loc b) = StableHlo.after hostOps1 (exitV m c) (Proc.devRef .tc b)) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := exitG m) (hmain := hmainD m Variants.none) (hA := fun _ w => w.elim0)
    (hin := fun _ => .rfl) (hout := fun _ => .rfl) (hQ' := fun r h c b hb => (h.1 c).2 b hb)

/-- The lines after the region find each result at its value. -/
theorem exitV_result (c : Dev nD) (b : Ref sig .tc) (hb : b ∈ R0) : exitV m c (Proc.devRef .tc b) = exitG m c b := by
  unfold exitV
  rw [Pipeline.withArrays_of_ne _ c _ _ b (fun w => w.elim0), Pipeline.withR_of_mem _ _ _ _ b hb]

/-- They find each other buffer as the region found it. -/
theorem exitV_other (c : Dev nD) (b : Ref sig .tc) (hb : b ∉ R0) : exitV m c (Proc.devRef .tc b) = V m c b := by
  unfold exitV
  rw [Pipeline.withArrays_of_ne _ c _ _ b (fun w => w.elim0), Pipeline.withR_of_not_mem _ _ _ _ b hb]

/-- The lines after the region write none of the arguments. -/
theorem after_keeps (W : Valuation τ sig (Elt Ideal)) (b : Ref sig .tc) (hb : b ∉ T0) :
    StableHlo.after hostOps1 W (Proc.devRef .tc b) = W (Proc.devRef .tc b) :=
  StableHlo.after_of_forall_not_mem _ _ fun op hop hw => hb (sfx_writes hostOps1 (List.mem_singleton.mpr rfl) op hop b hw)

/-- The run of @main: the five results, and the five arguments unchanged. -/
theorem run_values : θ_run defs (onTc (τ := τ) (main (F := Ideal))) ⟨m, fun _ => 0, ρ⟩ (fun r => ∀ c : Dev nD,
      r.2.mem ((c.tc : Thread nD τ).loc main_v4) = shapeCast S1x256x3072 ((got m c).out : S256x3072.Idx → Elt Ideal .bf16) shapeCasts_S256x3072_S1x256x3072
      ∧ r.2.mem ((c.tc : Thread nD τ).loc main_v5) = shapeCast S1x256x3072 ((got m c).xCodes : S256x3072.Idx → Elt Ideal .fp8e4m3) shapeCasts_S256x3072_S1x256x3072
      ∧ r.2.mem ((c.tc : Thread nD τ).loc main_v6) = shapeCast S1x256x1 ((got m c).xScale : S256x1.Idx → Elt Ideal .f32) shapeCasts_S256x1_S1x256x1
      ∧ r.2.mem ((c.tc : Thread nD τ).loc main_v7) = shapeCast S1x256x4096 ((got m c).hCodes : S256x4096.Idx → Elt Ideal .fp8e4m3) shapeCasts_S256x4096_S1x256x4096
      ∧ r.2.mem ((c.tc : Thread nD τ).loc main_v8) = shapeCast S1x256x1 ((got m c).hScale : S256x1.Idx → Elt Ideal .f32) shapeCasts_S256x1_S1x256x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
    have e := exit_results m c
    have keep : ∀ b : Ref sig .tc, b ∈ Pipeline.restRefs sig cfg0.spec → b ∉ T0 → b ∉ R0 → r.2.mem ((c.tc : Thread nD τ).loc b) = V m c b := fun b h1 h2 h3 =>
      (h c b h1).trans ((after_keeps _ b h2).trans (exitV_other m c b h3))
    refine ⟨(h c main_v4 (Pipeline.mem_restRefs_of main_v4 (by decide) (by decide))).trans ((tail_v4 _).trans (congrArg (fun z => shapeCast S1x256x3072 z shapeCasts_S256x3072_S1x256x3072) ((exitV_result m c main_v3_0 (by decide)).trans (congrArg Outs.out e)))),
      (h c main_v5 (Pipeline.mem_restRefs_of main_v5 (by decide) (by decide))).trans ((tail_v5 _).trans (congrArg (fun z => shapeCast S1x256x3072 z shapeCasts_S256x3072_S1x256x3072) ((exitV_result m c main_v3_1 (by decide)).trans (congrArg Outs.xCodes e)))),
      (h c main_v6 (Pipeline.mem_restRefs_of main_v6 (by decide) (by decide))).trans ((tail_v6 _).trans (congrArg (fun z => shapeCast S1x256x1 z shapeCasts_S256x1_S1x256x1) ((exitV_result m c main_v3_2 (by decide)).trans (congrArg Outs.xScale e)))),
      (h c main_v7 (Pipeline.mem_restRefs_of main_v7 (by decide) (by decide))).trans ((tail_v7 _).trans (congrArg (fun z => shapeCast S1x256x4096 z shapeCasts_S256x4096_S1x256x4096) ((exitV_result m c main_v3_3 (by decide)).trans (congrArg Outs.hCodes e)))),
      (h c main_v8 (Pipeline.mem_restRefs_of main_v8 (by decide) (by decide))).trans ((tail_v8 _).trans (congrArg (fun z => shapeCast S1x256x1 z shapeCasts_S256x1_S1x256x1) ((exitV_result m c main_v3_4 (by decide)).trans (congrArg Outs.hScale e)))),
      (keep main_arg0 (Pipeline.mem_restRefs_of main_arg0 (by decide) (by decide)) (by decide) (by decide)).trans (V_main_arg0 m c),
      (keep main_arg1 (Pipeline.mem_restRefs_of main_arg1 (by decide) (by decide)) (by decide) (by decide)).trans (V_main_arg1 m c),
      (keep main_arg2 (Pipeline.mem_restRefs_of main_arg2 (by decide) (by decide)) (by decide) (by decide)).trans (V_main_arg2 m c),
      (keep main_arg3 (Pipeline.mem_restRefs_of main_arg3 (by decide) (by decide)) (by decide) (by decide)).trans (V_main_arg3 m c),
      (keep main_arg4 (Pipeline.mem_restRefs_of main_arg4 (by decide) (by decide)) (by decide) (by decide)).trans (V_main_arg4 m c)⟩) (run_main m ρ)

end Cert.KernelIdeal.Value

end
-- ==== Proof.ReferenceIdealValue.lean ====
/-
  The reference's run at the ideal reading with its values: its one body leaves the five results at its own five
  expressions of the operands, the host lines before it reshape x and the two scale rows, and the host lines after it
  reshape the results.
-/
module

public import proofs.«01_k».proof.Proof.Gen.ReferenceIdeal.Frame
public import proofs.«01_k».proof.Proof.Tiles
public import Idealize.ShloMosaic.Lib.Pipeline.ValueKit
public import Idealize.ShloMosaic.Lib.Pointwise
public import Idealize.ShloMosaic.Lib.Pipeline.ReadBack

@[expose] public section

noncomputable section

namespace Cert.ReferenceIdeal.Value

open Cert.ReferenceIdeal Cert.ReferenceIdeal.Gen
open Idealize.ShloMosaic Idealize.ShloMosaic.TcCoe Idealize.ShloMosaic.Tactic
open Idealize.ShloMosaic.Pipeline

/-- The codes of h, of the region's operands. -/
def hCodes (x : Vec Ideal S256x3072 .bf16) (w : Vec Ideal S3072x8192 .fp8e4m3) (s : Vec Ideal S1x8192 .f32) : Vec Ideal S256x4096 .fp8e4m3 :=
  k0_pay9 (F := Ideal) (k0_pay4 (F := Ideal) x) w (constant S256x8192 .f32 0x00000000#32) (k0_pay5 (F := Ideal) x) s

/-- The scale of h, of the region's operands. -/
def hScale (x : Vec Ideal S256x3072 .bf16) (w : Vec Ideal S3072x8192 .fp8e4m3) (s : Vec Ideal S1x8192 .f32) : Vec Ideal S256x1 .f32 :=
  k0_pay10 (F := Ideal) (k0_pay4 (F := Ideal) x) w (constant S256x8192 .f32 0x00000000#32) (k0_pay5 (F := Ideal) x) s

/-- The output, of the region's operands. -/
def out (x : Vec Ideal S256x3072 .bf16) (w : Vec Ideal S3072x8192 .fp8e4m3) (s : Vec Ideal S1x8192 .f32) (w' : Vec Ideal S4096x3072 .fp8e4m3)
    (s' : Vec Ideal S1x3072 .f32) : Vec Ideal S256x3072 .bf16 :=
  k0_pay1 (F := Ideal) (hCodes x w s) w' (hScale x w s) s'

/-- Reshaping codes to their own shape keeps them. -/
theorem pay6_eq (x : Vec Ideal S256x3072 .fp8e4m3) : k0_pay6 (F := Ideal) x = x := by
  unfold k0_pay6
  rw [shapeCast_self]

/-- The lines after the region give the result out a leading axis. -/
theorem tail_v4 (W : Valuation τ sig (Elt Ideal)) : StableHlo.after hostOps1 W (Proc.devRef .tc main_v4)
    = shapeCast S1x256x3072 (W (Proc.devRef .tc main_v3_0) : S256x3072.Idx → Elt Ideal .bf16) shapeCasts_S256x3072_S1x256x3072 := by
  after_results
  rfl

/-- The lines after the region give the result x codes a leading axis. -/
theorem tail_v5 (W : Valuation τ sig (Elt Ideal)) : StableHlo.after hostOps1 W (Proc.devRef .tc main_v5)
    = shapeCast S1x256x3072 (W (Proc.devRef .tc main_v3_1) : S256x3072.Idx → Elt Ideal .fp8e4m3) shapeCasts_S256x3072_S1x256x3072 := by
  after_results
  rfl

/-- The lines after the region give the result x scale a leading axis. -/
theorem tail_v6 (W : Valuation τ sig (Elt Ideal)) : StableHlo.after hostOps1 W (Proc.devRef .tc main_v6)
    = shapeCast S1x256x1 (W (Proc.devRef .tc main_v3_2) : S256x1.Idx → Elt Ideal .f32) shapeCasts_S256x1_S1x256x1 := by
  after_results
  rfl

/-- The lines after the region give the result h codes a leading axis. -/
theorem tail_v7 (W : Valuation τ sig (Elt Ideal)) : StableHlo.after hostOps1 W (Proc.devRef .tc main_v7)
    = shapeCast S1x256x4096 (W (Proc.devRef .tc main_v3_3) : S256x4096.Idx → Elt Ideal .fp8e4m3) shapeCasts_S256x4096_S1x256x4096 := by
  after_results
  rfl

/-- The lines after the region give the result h scale a leading axis. -/
theorem tail_v8 (W : Valuation τ sig (Elt Ideal)) : StableHlo.after hostOps1 W (Proc.devRef .tc main_v8)
    = shapeCast S1x256x1 (W (Proc.devRef .tc main_v3_4) : S256x1.Idx → Elt Ideal .f32) shapeCasts_S256x1_S1x256x1 := by
  after_results
  rfl

variable (m : (ℓ : Loc nD τ sig) → Buf (Elt Ideal) ℓ) (ρ : Dev nD → PrngReg)

/-- The lines before the region give x its region's shape. -/
theorem head_v0 (c : Dev nD) : V m c main_v0
    = shapeCast S256x3072 (m ((c : Thread nD τ).loc main_arg0) : S1x256x3072.Idx → Elt Ideal .bf16) shapeCasts_S1x256x3072_S256x3072 := by
  show StableHlo.after hostOps0 (fun b => m (c, b)) (Proc.devRef .tc main_v0) = _
  after_results
  rfl

/-- The lines before the region give the gate/up scales its region's shape. -/
theorem head_v1 (c : Dev nD) : V m c main_v1
    = shapeCast S1x8192 (m ((c : Thread nD τ).loc main_arg2) : S8192.Idx → Elt Ideal .f32) shapeCasts_S8192_S1x8192 := by
  show StableHlo.after hostOps0 (fun b => m (c, b)) (Proc.devRef .tc main_v1) = _
  after_results
  rfl

/-- The lines before the region give the down scales its region's shape. -/
theorem head_v2 (c : Dev nD) : V m c main_v2
    = shapeCast S1x3072 (m ((c : Thread nD τ).loc main_arg4) : S3072.Idx → Elt Ideal .f32) shapeCasts_S3072_S1x3072 := by
  show StableHlo.after hostOps0 (fun b => m (c, b)) (Proc.devRef .tc main_v2) = _
  after_results
  rfl

/-- Every window's one block is its whole array. -/
theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The block of operand 0 the body loads is the whole operand. -/
theorem iblk0 (c : Dev nD) (t : Fin cfg0.N) : iblk m c 0 t = V m c main_v0 := by blk_ext! [iblk, idx t]

/-- The block of operand 1 the body loads is the whole operand. -/
theorem iblk1 (c : Dev nD) (t : Fin cfg0.N) : iblk m c 1 t = V m c main_arg1 := by blk_ext! [iblk, idx t]

/-- The block of operand 2 the body loads is the whole operand. -/
theorem iblk2 (c : Dev nD) (t : Fin cfg0.N) : iblk m c 2 t = V m c main_v1 := by blk_ext! [iblk, idx t]

/-- The block of operand 3 the body loads is the whole operand. -/
theorem iblk3 (c : Dev nD) (t : Fin cfg0.N) : iblk m c 3 t = V m c main_arg3 := by blk_ext! [iblk, idx t]

/-- The block of operand 4 the body loads is the whole operand. -/
theorem iblk4 (c : Dev nD) (t : Fin cfg0.N) : iblk m c 4 t = V m c main_v2 := by blk_ext! [iblk, idx t]

/-- The region leaves the result out at its value. -/
theorem final5 (c : Dev nD) : (dats m 0 c).arrAt 5 cfg0.N = out (V m c main_v0) (V m c main_arg1) (V m c main_v1) (V m c main_arg3) (V m c main_v2) := by
  refine (dats m 0 c).arrAt_eq_of_after_last 5 t0_0 (by decide +kernel) _ fun j => ?_
  blk_simp
  rw [after0_5]
  unfold outsAt0
  frame_out
  simp only [read_unread_whole, pay6_eq, iblk0, iblk1, iblk2, iblk3, iblk4, out, hCodes, hScale]

/-- The region leaves the result x codes at its value. -/
theorem final6 (c : Dev nD) : (dats m 0 c).arrAt 6 cfg0.N = k0_pay4 (F := Ideal) (V m c main_v0) := by
  refine (dats m 0 c).arrAt_eq_of_after_last 6 t0_0 (by decide +kernel) _ fun j => ?_
  blk_simp
  rw [after0_6]
  unfold outsAt0
  frame_out
  simp only [read_unread_whole, pay6_eq, iblk0]

/-- The region leaves the result x scale at its value. -/
theorem final7 (c : Dev nD) : (dats m 0 c).arrAt 7 cfg0.N = k0_pay5 (F := Ideal) (V m c main_v0) := by
  refine (dats m 0 c).arrAt_eq_of_after_last 7 t0_0 (by decide +kernel) _ fun j => ?_
  blk_simp
  rw [after0_7]
  unfold outsAt0
  frame_out
  simp only [read_unread_whole, pay6_eq, iblk0]

/-- The region leaves the result h codes at its value. -/
theorem final8 (c : Dev nD) : (dats m 0 c).arrAt 8 cfg0.N = hCodes (V m c main_v0) (V m c main_arg1) (V m c main_v1) := by
  refine (dats m 0 c).arrAt_eq_of_after_last 8 t0_0 (by decide +kernel) _ fun j => ?_
  blk_simp
  rw [after0_8]
  unfold outsAt0
  frame_out
  simp only [read_unread_whole, pay6_eq, iblk0, iblk1, iblk2, hCodes]

/-- The region leaves the result h scale at its value. -/
theorem final9 (c : Dev nD) : (dats m 0 c).arrAt 9 cfg0.N = hScale (V m c main_v0) (V m c main_arg1) (V m c main_v1) := by
  refine (dats m 0 c).arrAt_eq_of_after_last 9 t0_0 (by decide +kernel) _ fun j => ?_
  blk_simp
  rw [after0_9]
  unfold outsAt0
  frame_out
  simp only [read_unread_whole, pay6_eq, iblk0, iblk1, iblk2, hScale]

/-- The run of @main: the five results, and the five arguments unchanged. -/
theorem run_values : θ_run defs (onTc (τ := τ) (main (F := Ideal))) ⟨m, fun _ => 0, ρ⟩ (fun r => ∀ c : Dev nD,
      r.2.mem ((c.tc : Thread nD τ).loc main_v4) = shapeCast S1x256x3072 (out (V m c main_v0) (V m c main_arg1) (V m c main_v1) (V m c main_arg3) (V m c main_v2) : S256x3072.Idx → Elt Ideal .bf16) shapeCasts_S256x3072_S1x256x3072
      ∧ r.2.mem ((c.tc : Thread nD τ).loc main_v5) = shapeCast S1x256x3072 (k0_pay4 (F := Ideal) (V m c main_v0) : S256x3072.Idx → Elt Ideal .fp8e4m3) shapeCasts_S256x3072_S1x256x3072
      ∧ r.2.mem ((c.tc : Thread nD τ).loc main_v6) = shapeCast S1x256x1 (k0_pay5 (F := Ideal) (V m c main_v0) : S256x1.Idx → Elt Ideal .f32) shapeCasts_S256x1_S1x256x1
      ∧ r.2.mem ((c.tc : Thread nD τ).loc main_v7) = shapeCast S1x256x4096 (hCodes (V m c main_v0) (V m c main_arg1) (V m c main_v1) : S256x4096.Idx → Elt Ideal .fp8e4m3) shapeCasts_S256x4096_S1x256x4096
      ∧ r.2.mem ((c.tc : Thread nD τ).loc main_v8) = shapeCast S1x256x1 (hScale (V m c main_v0) (V m c main_arg1) (V m c main_v1) : S256x1.Idx → Elt Ideal .f32) shapeCasts_S256x1_S1x256x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.2 c).2 main_v4 (Pipeline.mem_restRefs_of main_v4 (by decide) (by decide))).trans ((tail_v4 _).trans (congrArg (fun z => shapeCast S1x256x3072 z shapeCasts_S256x3072_S1x256x3072)
        ((Pipeline.withArrays_arr spec0 winFacts0.arr_inj c (V0 m c) (fun w => (dats m 0 c).arrAt w cfg0.N) 5).trans (final5 m c)))),
      ((h.2 c).2 main_v5 (Pipeline.mem_restRefs_of main_v5 (by decide) (by decide))).trans ((tail_v5 _).trans (congrArg (fun z => shapeCast S1x256x3072 z shapeCasts_S256x3072_S1x256x3072)
        ((Pipeline.withArrays_arr spec0 winFacts0.arr_inj c (V0 m c) (fun w => (dats m 0 c).arrAt w cfg0.N) 6).trans (final6 m c)))),
      ((h.2 c).2 main_v6 (Pipeline.mem_restRefs_of main_v6 (by decide) (by decide))).trans ((tail_v6 _).trans (congrArg (fun z => shapeCast S1x256x1 z shapeCasts_S256x1_S1x256x1)
        ((Pipeline.withArrays_arr spec0 winFacts0.arr_inj c (V0 m c) (fun w => (dats m 0 c).arrAt w cfg0.N) 7).trans (final7 m c)))),
      ((h.2 c).2 main_v7 (Pipeline.mem_restRefs_of main_v7 (by decide) (by decide))).trans ((tail_v7 _).trans (congrArg (fun z => shapeCast S1x256x4096 z shapeCasts_S256x4096_S1x256x4096)
        ((Pipeline.withArrays_arr spec0 winFacts0.arr_inj c (V0 m c) (fun w => (dats m 0 c).arrAt w cfg0.N) 8).trans (final8 m c)))),
      ((h.2 c).2 main_v8 (Pipeline.mem_restRefs_of main_v8 (by decide) (by decide))).trans ((tail_v8 _).trans (congrArg (fun z => shapeCast S1x256x1 z shapeCasts_S256x1_S1x256x1)
        ((Pipeline.withArrays_arr spec0 winFacts0.arr_inj c (V0 m c) (fun w => (dats m 0 c).arrAt w cfg0.N) 9).trans (final9 m c)))),
      h.1 c⟩) (θ_run_and (unchanged m ρ) (run_main m ρ))

end Cert.ReferenceIdeal.Value

end
-- ==== Proof.Algebraic.lean ====
/-
  The algebraic claim: over the exact extended reals the kernel and the reference leave the same five results. Both runs
  are known by their values, which are the same five expressions of the same five operands.
-/
module

public import proofs.«01_k».proof.Defs
public import proofs.«01_k».proof.Proof.KernelIdealValue
public import proofs.«01_k».proof.Proof.ReferenceIdealValue

@[expose] public section

noncomputable section

namespace Cert.Algebraic

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- From equal arguments the two regions find the same operand: x. -/
theorem operand0 (c : Dev Cert.KernelIdeal.nD) (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Gen.V m' c Cert.ReferenceIdeal.main_v0 : Vec Ideal Cert.ReferenceIdeal.S256x3072 .bf16) = Cert.KernelIdeal.Gen.V m c Cert.KernelIdeal.main_v0 :=
  (Cert.ReferenceIdeal.Value.head_v0 m' c).trans ((congrArg (fun z : Vec Ideal Cert.ReferenceIdeal.S1x256x3072 .bf16 =>
    shapeCast Cert.ReferenceIdeal.S256x3072 z Cert.ReferenceIdeal.Facts₀.shapeCasts_S1x256x3072_S256x3072) h).trans (Cert.KernelIdeal.Value.head_v0 m c).symm)

/-- From equal arguments the two regions find the same operand: the gate/up weights. -/
theorem operand1 (c : Dev Cert.KernelIdeal.nD) (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Gen.V m' c Cert.ReferenceIdeal.main_arg1 : Vec Ideal Cert.ReferenceIdeal.S3072x8192 .fp8e4m3) = Cert.KernelIdeal.Gen.V m c Cert.KernelIdeal.main_arg1 :=
  (Cert.ReferenceIdeal.Gen.V_main_arg1 m' c).trans (h.trans (Cert.KernelIdeal.Gen.V_main_arg1 m c).symm)

/-- From equal arguments the two regions find the same operand: the gate/up scales. -/
theorem operand2 (c : Dev Cert.KernelIdeal.nD) (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Gen.V m' c Cert.ReferenceIdeal.main_v1 : Vec Ideal Cert.ReferenceIdeal.S1x8192 .f32) = Cert.KernelIdeal.Gen.V m c Cert.KernelIdeal.main_v1 :=
  (Cert.ReferenceIdeal.Value.head_v1 m' c).trans ((congrArg (fun z : Vec Ideal Cert.ReferenceIdeal.S8192 .f32 =>
    shapeCast Cert.ReferenceIdeal.S1x8192 z Cert.ReferenceIdeal.Facts₀.shapeCasts_S8192_S1x8192) h).trans (Cert.KernelIdeal.Value.head_v1 m c).symm)

/-- From equal arguments the two regions find the same operand: the down weights. -/
theorem operand3 (c : Dev Cert.KernelIdeal.nD) (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Gen.V m' c Cert.ReferenceIdeal.main_arg3 : Vec Ideal Cert.ReferenceIdeal.S4096x3072 .fp8e4m3) = Cert.KernelIdeal.Gen.V m c Cert.KernelIdeal.main_arg3 :=
  (Cert.ReferenceIdeal.Gen.V_main_arg3 m' c).trans (h.trans (Cert.KernelIdeal.Gen.V_main_arg3 m c).symm)

/-- From equal arguments the two regions find the same operand: the down scales. -/
theorem operand4 (c : Dev Cert.KernelIdeal.nD) (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Gen.V m' c Cert.ReferenceIdeal.main_v2 : Vec Ideal Cert.ReferenceIdeal.S1x3072 .f32) = Cert.KernelIdeal.Gen.V m c Cert.KernelIdeal.main_v2 :=
  (Cert.ReferenceIdeal.Value.head_v2 m' c).trans ((congrArg (fun z : Vec Ideal Cert.ReferenceIdeal.S3072 .f32 =>
    shapeCast Cert.ReferenceIdeal.S1x3072 z Cert.ReferenceIdeal.Facts₀.shapeCasts_S3072_S1x3072) h).trans (Cert.KernelIdeal.Value.head_v2 m c).symm)

/-- The reference's five values, as one function of the five operands. -/
def values (x : Vec Ideal Cert.ReferenceIdeal.S256x3072 .bf16) (w : Vec Ideal Cert.ReferenceIdeal.S3072x8192 .fp8e4m3)
    (s : Vec Ideal Cert.ReferenceIdeal.S1x8192 .f32) (w' : Vec Ideal Cert.ReferenceIdeal.S4096x3072 .fp8e4m3)
    (s' : Vec Ideal Cert.ReferenceIdeal.S1x3072 .f32) (c : Dev Cert.KernelIdeal.nD) : Cert.KernelIdeal.Hand.Outs Ideal c :=
  ⟨Cert.ReferenceIdeal.Value.out x w s w' s', Cert.ReferenceIdeal.Gen.k0_pay4 (F := Ideal) x, Cert.ReferenceIdeal.Gen.k0_pay5 (F := Ideal) x,
    Cert.ReferenceIdeal.Value.hCodes x w s, Cert.ReferenceIdeal.Value.hScale x w s⟩

/-- The operands being equal, so are the values. -/
theorem values_congr {x y : Vec Ideal Cert.ReferenceIdeal.S256x3072 .bf16} {w v : Vec Ideal Cert.ReferenceIdeal.S3072x8192 .fp8e4m3}
    {s r : Vec Ideal Cert.ReferenceIdeal.S1x8192 .f32} {w' v' : Vec Ideal Cert.ReferenceIdeal.S4096x3072 .fp8e4m3}
    {s' r' : Vec Ideal Cert.ReferenceIdeal.S1x3072 .f32} (c : Dev Cert.KernelIdeal.nD) (hx : x = y) (hw : w = v) (hs : s = r) (hw' : w' = v') (hs' : s' = r') :
    values x w s w' s' c = values y v r v' r' c := by
  subst hx hw hs hw' hs'
  rfl

/-- What the kernel's region leaves is the reference's values of its operands. -/
theorem got_eq (c : Dev Cert.KernelIdeal.nD) : Cert.KernelIdeal.Value.got m c
    = values (Cert.KernelIdeal.Gen.V m c Cert.KernelIdeal.main_v0) (Cert.KernelIdeal.Gen.V m c Cert.KernelIdeal.main_arg1) (Cert.KernelIdeal.Gen.V m c Cert.KernelIdeal.main_v1)
        (Cert.KernelIdeal.Gen.V m c Cert.KernelIdeal.main_arg3) (Cert.KernelIdeal.Gen.V m c Cert.KernelIdeal.main_v2) c := by
  unfold Cert.KernelIdeal.Value.got Cert.KernelIdeal.Hand.closed values Cert.ReferenceIdeal.Value.out Cert.ReferenceIdeal.Value.hCodes Cert.ReferenceIdeal.Value.hScale
  rfl

/-- From equal arguments the reference's values are what the kernel's region leaves. -/
theorem values_eq (c : Dev Cert.KernelIdeal.nD) (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    values (Cert.ReferenceIdeal.Gen.V m' c Cert.ReferenceIdeal.main_v0) (Cert.ReferenceIdeal.Gen.V m' c Cert.ReferenceIdeal.main_arg1) (Cert.ReferenceIdeal.Gen.V m' c Cert.ReferenceIdeal.main_v1)
        (Cert.ReferenceIdeal.Gen.V m' c Cert.ReferenceIdeal.main_arg3) (Cert.ReferenceIdeal.Gen.V m' c Cert.ReferenceIdeal.main_v2) c
      = Cert.KernelIdeal.Value.got m c :=
  (values_congr c (operand0 m m' c h.1) (operand1 m m' c h.2.1) (operand2 m m' c h.2.2.1) (operand3 m m' c h.2.2.2.1) (operand4 m m' c h.2.2.2.2)).trans (got_eq m c).symm

/-- The algebraic claim. -/
theorem algebraic : Cert.algebraic_KernelIdeal_ReferenceIdeal := fun m g m' g' _ hm =>
  ⟨fun c => shapeCast Cert.KernelIdeal.S1x256x3072 ((Cert.KernelIdeal.Value.got m c).out : Cert.KernelIdeal.S256x3072.Idx → Elt Ideal .bf16) Cert.KernelIdeal.Facts₀.shapeCasts_S256x3072_S1x256x3072,
    fun c => shapeCast Cert.KernelIdeal.S1x256x3072 ((Cert.KernelIdeal.Value.got m c).xCodes : Cert.KernelIdeal.S256x3072.Idx → Elt Ideal .fp8e4m3) Cert.KernelIdeal.Facts₀.shapeCasts_S256x3072_S1x256x3072,
    fun c => shapeCast Cert.KernelIdeal.S1x256x1 ((Cert.KernelIdeal.Value.got m c).xScale : Cert.KernelIdeal.S256x1.Idx → Elt Ideal .f32) Cert.KernelIdeal.Facts₀.shapeCasts_S256x1_S1x256x1,
    fun c => shapeCast Cert.KernelIdeal.S1x256x4096 ((Cert.KernelIdeal.Value.got m c).hCodes : Cert.KernelIdeal.S256x4096.Idx → Elt Ideal .fp8e4m3) Cert.KernelIdeal.Facts₀.shapeCasts_S256x4096_S1x256x4096,
    fun c => shapeCast Cert.KernelIdeal.S1x256x1 ((Cert.KernelIdeal.Value.got m c).hScale : Cert.KernelIdeal.S256x1.Idx → Elt Ideal .f32) Cert.KernelIdeal.Facts₀.shapeCasts_S256x1_S1x256x1,
    Cert.KernelIdeal.Value.run_values m g,
    (θ_run Cert.ReferenceIdeal.defs _ _).mono (fun r h c =>
      have e := values_eq m m' c (hm c)
      ⟨(h c).1.trans (congrArg (fun z : Cert.KernelIdeal.Hand.Outs Ideal c => shapeCast Cert.KernelIdeal.S1x256x3072 (z.out : Cert.KernelIdeal.S256x3072.Idx → Elt Ideal .bf16) Cert.KernelIdeal.Facts₀.shapeCasts_S256x3072_S1x256x3072) e),
        (h c).2.1.trans (congrArg (fun z : Cert.KernelIdeal.Hand.Outs Ideal c => shapeCast Cert.KernelIdeal.S1x256x3072 (z.xCodes : Cert.KernelIdeal.S256x3072.Idx → Elt Ideal .fp8e4m3) Cert.KernelIdeal.Facts₀.shapeCasts_S256x3072_S1x256x3072) e),
        (h c).2.2.1.trans (congrArg (fun z : Cert.KernelIdeal.Hand.Outs Ideal c => shapeCast Cert.KernelIdeal.S1x256x1 (z.xScale : Cert.KernelIdeal.S256x1.Idx → Elt Ideal .f32) Cert.KernelIdeal.Facts₀.shapeCasts_S256x1_S1x256x1) e),
        (h c).2.2.2.1.trans (congrArg (fun z : Cert.KernelIdeal.Hand.Outs Ideal c => shapeCast Cert.KernelIdeal.S1x256x4096 (z.hCodes : Cert.KernelIdeal.S256x4096.Idx → Elt Ideal .fp8e4m3) Cert.KernelIdeal.Facts₀.shapeCasts_S256x4096_S1x256x4096) e),
        (h c).2.2.2.2.1.trans (congrArg (fun z : Cert.KernelIdeal.Hand.Outs Ideal c => shapeCast Cert.KernelIdeal.S1x256x1 (z.hScale : Cert.KernelIdeal.S256x1.Idx → Elt Ideal .f32) Cert.KernelIdeal.Facts₀.shapeCasts_S256x1_S1x256x1) e),
        (h c).2.2.2.2.2⟩) (Cert.ReferenceIdeal.Value.run_values m' g')⟩

end Cert.Algebraic

end
-- ==== Proof.lean ====
/-
  The certificate: the kernel's frame as printed and at the ideal reading, the reference's frame, that the
  idealization is the program's own text, and that over the exact extended reals kernel and reference leave equal results.
-/
module

public import proofs.«01_k».proof.Defs
public import proofs.«01_k».proof.Proof.KernelFrame
public import proofs.«01_k».proof.Proof.KernelIdealFrame
public import proofs.«01_k».proof.Proof.Gen.ReferenceIdeal.Frame
public import proofs.«01_k».proof.Proof.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g,
    fun m g _ => Cert.ReferenceIdeal.Gen.frame m g, trivial, Cert.Algebraic.algebraic⟩

end Cert.Proof

end
